-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x18944 : Shape := ⟨3, ![2, 1024, 18944]⟩
abbrev S2x1024x148 : Shape := ⟨3, ![2, 1024, 148]⟩
abbrev S18944x3584 : Shape := ⟨2, ![18944, 3584]⟩
abbrev S148x28 : Shape := ⟨2, ![148, 28]⟩
abbrev S2x1024x3584 : Shape := ⟨3, ![2, 1024, 3584]⟩
abbrev S3584 : Shape := ⟨1, ![3584]⟩
abbrev S_ : Shape := ⟨0, ![]⟩

class Facts : Prop where
  bcast_S_S3584 : S_.BroadcastsInDim S3584 (![] : Fin 0 → Fin S3584.rank)

variable [Facts]

def fn {F : FTy → Type} [FloatOps F] (main_arg0 : FVec F S2x1024x18944 .fp8e4m3) (main_arg1 : FVec F S2x1024x148 .f32) (main_arg2 : FVec F S18944x3584 .fp8e4m3) (main_arg3 : FVec F S148x28 .f32) (main_arg4 : FVec F S2x1024x3584 .bf16) (main_arg5 : FVec F S3584 .f32) : IVec S3584 1 :=
  let main_v0 : FVec F S3584 .f32 := Host.absf main_arg5
  let main_cst : FVec F S_ .f32 := constant S_ .f32 0x7F7FFFFF#32
  let main_v1 : FVec F S3584 .f32 := broadcastInDim S3584 ![] bcast_S_S3584 main_cst
  let main_v2 : IVec S3584 1 := cmpf .ole main_v0 main_v1
  main_v2
-- ==== Kernel.lean ====
abbrev S2x1024x18944 : Shape := ⟨3, ![2, 1024, 18944]⟩
abbrev S2x1024x148 : Shape := ⟨3, ![2, 1024, 148]⟩
abbrev S18944x3584 : Shape := ⟨2, ![18944, 3584]⟩
abbrev S148x28 : Shape := ⟨2, ![148, 28]⟩
abbrev S2x1024x3584 : Shape := ⟨3, ![2, 1024, 3584]⟩
abbrev S3584 : Shape := ⟨1, ![3584]⟩
abbrev S2048x37x4 : Shape := ⟨3, ![2048, 37, 4]⟩
abbrev S37x2048x4 : Shape := ⟨3, ![37, 2048, 4]⟩
abbrev S2048x18944 : Shape := ⟨2, ![2048, 18944]⟩
abbrev S2048x3584 : Shape := ⟨2, ![2048, 3584]⟩
abbrev S1x3584 : Shape := ⟨2, ![1, 3584]⟩
abbrev S2048x128 : Shape := ⟨2, ![2048, 128]⟩
abbrev S512x512 : Shape := ⟨2, ![512, 512]⟩
abbrev S1x512x4 : Shape := ⟨3, ![1, 512, 4]⟩
abbrev S512x3584 : Shape := ⟨2, ![512, 3584]⟩
abbrev S512x128 : Shape := ⟨2, ![512, 128]⟩
abbrev S1x1 : Shape := ⟨2, ![1, 1]⟩
abbrev S128x128 : Shape := ⟨2, ![128, 128]⟩
abbrev S1x512x1 : Shape := ⟨3, ![1, 512, 1]⟩
abbrev S512x1 : Shape := ⟨2, ![512, 1]⟩
abbrev S32x3584 : Shape := ⟨2, ![32, 3584]⟩
abbrev S32 : Shape := ⟨1, ![32]⟩
abbrev S32x1 : Shape := ⟨2, ![32, 1]⟩
abbrev S32x128 : Shape := ⟨2, ![32, 128]⟩
abbrev S1x128 : Shape := ⟨2, ![1, 128]⟩

abbrev nBuf : Space → Nat
  | .hbm => 14
  | .vmem => 18
  | .smem => 1
  | _ => 0

abbrev bufTy : (tb : Table) → Fin (tcTables nBuf tb) → BufTy
  | .hbm, ⟨0, _⟩ => ⟨S2x1024x18944, .fp8e4m3⟩
  | .hbm, ⟨1, _⟩ => ⟨S2x1024x148, .f32⟩
  | .hbm, ⟨2, _⟩ => ⟨S18944x3584, .fp8e4m3⟩
  | .hbm, ⟨3, _⟩ => ⟨S148x28, .f32⟩
  | .hbm, ⟨4, _⟩ => ⟨S2x1024x3584, .bf16⟩
  | .hbm, ⟨5, _⟩ => ⟨S3584, .f32⟩
  | .hbm, ⟨6, _⟩ => ⟨S2048x37x4, .f32⟩
  | .hbm, ⟨7, _⟩ => ⟨S37x2048x4, .f32⟩
  | .hbm, ⟨8, _⟩ => ⟨S2048x18944, .fp8e4m3⟩
  | .hbm, ⟨9, _⟩ => ⟨S2048x3584, .bf16⟩
  | .hbm, ⟨10, _⟩ => ⟨S1x3584, .f32⟩
  | .hbm, ⟨11, _⟩ => ⟨S2048x3584, .bf16⟩
  | .hbm, ⟨12, _⟩ => ⟨S2048x3584, .fp8e4m3⟩
  | .hbm, ⟨13, _⟩ => ⟨S2048x128, .f32⟩
  | .local _ .vmem, ⟨0, _⟩ => ⟨S512x512, .fp8e4m3⟩
  | .local _ .vmem, ⟨1, _⟩ => ⟨S512x512, .fp8e4m3⟩
  | .local _ .vmem, ⟨2, _⟩ => ⟨S1x512x4, .f32⟩
  | .local _ .vmem, ⟨3, _⟩ => ⟨S1x512x4, .f32⟩
  | .local _ .vmem, ⟨4, _⟩ => ⟨S512x3584, .fp8e4m3⟩
  | .local _ .vmem, ⟨5, _⟩ => ⟨S512x3584, .fp8e4m3⟩
  | .local _ .vmem, ⟨6, _⟩ => ⟨S512x3584, .bf16⟩
  | .local _ .vmem, ⟨7, _⟩ => ⟨S512x3584, .bf16⟩
  | .local _ .vmem, ⟨8, _⟩ => ⟨S1x3584, .f32⟩
  | .local _ .vmem, ⟨9, _⟩ => ⟨S512x3584, .bf16⟩
  | .local _ .vmem, ⟨10, _⟩ => ⟨S512x3584, .bf16⟩
  | .local _ .vmem, ⟨11, _⟩ => ⟨S512x3584, .fp8e4m3⟩
  | .local _ .vmem, ⟨12, _⟩ => ⟨S512x3584, .fp8e4m3⟩
  | .local _ .vmem, ⟨13, _⟩ => ⟨S512x128, .f32⟩
  | .local _ .vmem, ⟨14, _⟩ => ⟨S512x128, .f32⟩
  | .local _ .vmem, ⟨15, _⟩ => ⟨S512x3584, .f32⟩
  | .local _ .vmem, ⟨16, _⟩ => ⟨S512x3584, .bf16⟩
  | .local _ .vmem, ⟨17, _⟩ => ⟨S512x512, .bf16⟩
  | .local _ .smem, ⟨0, _⟩ => ⟨S148x28, .f32⟩
  | _, _ => ⟨S2x1024x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 37], ![false, false]⟩

def k0_off1 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  let c0 : Index := 0#32
  ![v5.toNat, 0]
def k0_off2 (i : grid0.Coords) (c0_i32_7 : BitVec 32) : Fin 2 → Nat :=
  let arg1 : BitVec 32 := BitVec.ofNat 32 (i 1).val
  let c4_i32_6 : BitVec 32 := 4#32
  let v15 : BitVec 32 := Scalar.muli arg1 c4_i32_6
  let v16 : BitVec 32 := Scalar.addi v15 c0_i32_7
  let v17 : Index := Scalar.indexCast v16
  let c1 : Index := 1#32
  ![v17.toNat, 1]
def k0_off3 (i : grid0.Coords) (c0_i32_12 : BitVec 32) : Fin 2 → Nat :=
  let arg1 : BitVec 32 := BitVec.ofNat 32 (i 1).val
  let c4_i32_11 : BitVec 32 := 4#32
  let v27 : BitVec 32 := Scalar.muli arg1 c4_i32_11
  let v28 : BitVec 32 := Scalar.addi v27 c0_i32_12
  let v29 : Index := Scalar.indexCast v28
  let c2 : Index := 2#32
  ![v29.toNat, 2]
def k0_off4 (i : grid0.Coords) (c0_i32_17 : BitVec 32) : Fin 2 → Nat :=
  let arg1 : BitVec 32 := BitVec.ofNat 32 (i 1).val
  let c4_i32_16 : BitVec 32 := 4#32
  let v39 : BitVec 32 := Scalar.muli arg1 c4_i32_16
  let v40 : BitVec 32 := Scalar.addi v39 c0_i32_17
  let v41 : Index := Scalar.indexCast v40
  let c3 : Index := 3#32
  ![v41.toNat, 3]
def k0_off5 (i : grid0.Coords) (c0_i32_22 : BitVec 32) : Fin 2 → Nat :=
  let arg1 : BitVec 32 := BitVec.ofNat 32 (i 1).val
  let c4_i32_21 : BitVec 32 := 4#32
  let v51 : BitVec 32 := Scalar.muli arg1 c4_i32_21
  let v52 : BitVec 32 := Scalar.addi v51 c0_i32_22
  let v53 : Index := Scalar.indexCast v52
  let c4 : Index := 4#32
  ![v53.toNat, 4]
def k0_off6 (i : grid0.Coords) (c0_i32_27 : BitVec 32) : Fin 2 → Nat :=
  let arg1 : BitVec 32 := BitVec.ofNat 32 (i 1).val
  let c4_i32_26 : BitVec 32 := 4#32
  let v63 : BitVec 32 := Scalar.muli arg1 c4_i32_26
  let v64 : BitVec 32 := Scalar.addi v63 c0_i32_27
  let v65 : Index := Scalar.indexCast v64
  let c5 : Index := 5#32
  ![v65.toNat, 5]
def k0_off7 (i : grid0.Coords) (c0_i32_32 : BitVec 32) : Fin 2 → Nat :=
  let arg1 : BitVec 32 := BitVec.ofNat 32 (i 1).val
  let c4_i32_31 : BitVec 32 := 4#32
  let v75 : BitVec 32 := Scalar.muli arg1 c4_i32_31
  let v76 : BitVec 32 := Scalar.addi v75 c0_i32_32
  let v77 : Index := Scalar.indexCast v76
  let c6 : Index := 6#32
  ![v77.toNat, 6]
def k0_off8 (i : grid0.Coords) (c0_i32_37 : BitVec 32) : Fin 2 → Nat :=
  let arg1 : BitVec 32 := BitVec.ofNat 32 (i 1).val
  let c4_i32_36 : BitVec 32 := 4#32
  let v87 : BitVec 32 := Scalar.muli arg1 c4_i32_36
  let v88 : BitVec 32 := Scalar.addi v87 c0_i32_37
  let v89 : Index := Scalar.indexCast v88
  let c7 : Index := 7#32
  ![v89.toNat, 7]
def k0_off9 (i : grid0.Coords) (c0_i32_42 : BitVec 32) : Fin 2 → Nat :=
  let arg1 : BitVec 32 := BitVec.ofNat 32 (i 1).val
  let c4_i32_41 : BitVec 32 := 4#32
  let v99 : BitVec 32 := Scalar.muli arg1 c4_i32_41
  let v100 : BitVec 32 := Scalar.addi v99 c0_i32_42
  let v101 : Index := Scalar.indexCast v100
  let c8 : Index := 8#32
  ![v101.toNat, 8]
def k0_off10 (i : grid0.Coords) (c0_i32_47 : BitVec 32) : Fin 2 → Nat :=
  let arg1 : BitVec 32 := BitVec.ofNat 32 (i 1).val
  let c4_i32_46 : BitVec 32 := 4#32
  let v111 : BitVec 32 := Scalar.muli arg1 c4_i32_46
  let v112 : BitVec 32 := Scalar.addi v111 c0_i32_47
  let v113 : Index := Scalar.indexCast v112
  let c9 : Index := 9#32
  ![v113.toNat, 9]
def k0_off11 (i : grid0.Coords) (c0_i32_52 : BitVec 32) : Fin 2 → Nat :=
  let arg1 : BitVec 32 := BitVec.ofNat 32 (i 1).val
  let c4_i32_51 : BitVec 32 := 4#32
  let v123 : BitVec 32 := Scalar.muli arg1 c4_i32_51
  let v124 : BitVec 32 := Scalar.addi v123 c0_i32_52
  let v125 : Index := Scalar.indexCast v124
  let c10 : Index := 10#32
  ![v125.toNat, 10]
def k0_off12 (i : grid0.Coords) (c0_i32_57 : BitVec 32) : Fin 2 → Nat :=
  let arg1 : BitVec 32 := BitVec.ofNat 32 (i 1).val
  let c4_i32_56 : BitVec 32 := 4#32
  let v135 : BitVec 32 := Scalar.muli arg1 c4_i32_56
  let v136 : BitVec 32 := Scalar.addi v135 c0_i32_57
  let v137 : Index := Scalar.indexCast v136
  let c11 : Index := 11#32
  ![v137.toNat, 11]
def k0_off13 (i : grid0.Coords) (c0_i32_62 : BitVec 32) : Fin 2 → Nat :=
  let arg1 : BitVec 32 := BitVec.ofNat 32 (i 1).val
  let c4_i32_61 : BitVec 32 := 4#32
  let v147 : BitVec 32 := Scalar.muli arg1 c4_i32_61
  let v148 : BitVec 32 := Scalar.addi v147 c0_i32_62
  let v149 : Index := Scalar.indexCast v148
  let c12 : Index := 12#32
  ![v149.toNat, 12]
def k0_off14 (i : grid0.Coords) (c0_i32_67 : BitVec 32) : Fin 2 → Nat :=
  let arg1 : BitVec 32 := BitVec.ofNat 32 (i 1).val
  let c4_i32_66 : BitVec 32 := 4#32
  let v159 : BitVec 32 := Scalar.muli arg1 c4_i32_66
  let v160 : BitVec 32 := Scalar.addi v159 c0_i32_67
  let v161 : Index := Scalar.indexCast v160
  let c13 : Index := 13#32
  ![v161.toNat, 13]
def k0_off15 (i : grid0.Coords) (c0_i32_72 : BitVec 32) : Fin 2 → Nat :=
  let arg1 : BitVec 32 := BitVec.ofNat 32 (i 1).val
  let c4_i32_71 : BitVec 32 := 4#32
  let v171 : BitVec 32 := Scalar.muli arg1 c4_i32_71
  let v172 : BitVec 32 := Scalar.addi v171 c0_i32_72
  let v173 : Index := Scalar.indexCast v172
  let c14 : Index := 14#32
  ![v173.toNat, 14]
def k0_off16 (i : grid0.Coords) (c0_i32_77 : BitVec 32) : Fin 2 → Nat :=
  let arg1 : BitVec 32 := BitVec.ofNat 32 (i 1).val
  let c4_i32_76 : BitVec 32 := 4#32
  let v183 : BitVec 32 := Scalar.muli arg1 c4_i32_76
  let v184 : BitVec 32 := Scalar.addi v183 c0_i32_77
  let v185 : Index := Scalar.indexCast v184
  let c15 : Index := 15#32
  ![v185.toNat, 15]
def k0_off17 (i : grid0.Coords) (c0_i32_82 : BitVec 32) : Fin 2 → Nat :=
  let arg1 : BitVec 32 := BitVec.ofNat 32 (i 1).val
  let c4_i32_81 : BitVec 32 := 4#32
  let v195 : BitVec 32 := Scalar.muli arg1 c4_i32_81
  let v196 : BitVec 32 := Scalar.addi v195 c0_i32_82
  let v197 : Index := Scalar.indexCast v196
  let c16 : Index := 16#32
  ![v197.toNat, 16]
def k0_off18 (i : grid0.Coords) (c0_i32_87 : BitVec 32) : Fin 2 → Nat :=
  let arg1 : BitVec 32 := BitVec.ofNat 32 (i 1).val
  let c4_i32_86 : BitVec 32 := 4#32
  let v207 : BitVec 32 := Scalar.muli arg1 c4_i32_86
  let v208 : BitVec 32 := Scalar.addi v207 c0_i32_87
  let v209 : Index := Scalar.indexCast v208
  let c17 : Index := 17#32
  ![v209.toNat, 17]
def k0_off19 (i : grid0.Coords) (c0_i32_92 : BitVec 32) : Fin 2 → Nat :=
  let arg1 : BitVec 32 := BitVec.ofNat 32 (i 1).val
  let c4_i32_91 : BitVec 32 := 4#32
  let v219 : BitVec 32 := Scalar.muli arg1 c4_i32_91
  let v220 : BitVec 32 := Scalar.addi v219 c0_i32_92
  let v221 : Index := Scalar.indexCast v220
  let c18 : Index := 18#32
  ![v221.toNat, 18]
def k0_off20 (i : grid0.Coords) (c0_i32_97 : BitVec 32) : Fin 2 → Nat :=
  let arg1 : BitVec 32 := BitVec.ofNat 32 (i 1).val
  let c4_i32_96 : BitVec 32 := 4#32
  let v231 : BitVec 32 := Scalar.muli arg1 c4_i32_96
  let v232 : BitVec 32 := Scalar.addi v231 c0_i32_97
  let v233 : Index := Scalar.indexCast v232
  let c19 : Index := 19#32
  ![v233.toNat, 19]
def k0_off21 (i : grid0.Coords) (c0_i32_102 : BitVec 32) : Fin 2 → Nat :=
  let arg1 : BitVec 32 := BitVec.ofNat 32 (i 1).val
  let c4_i32_101 : BitVec 32 := 4#32
  let v243 : BitVec 32 := Scalar.muli arg1 c4_i32_101
  let v244 : BitVec 32 := Scalar.addi v243 c0_i32_102
  let v245 : Index := Scalar.indexCast v244
  let c20 : Index := 20#32
  ![v245.toNat, 20]
def k0_off22 (i : grid0.Coords) (c0_i32_107 : BitVec 32) : Fin 2 → Nat :=
  let arg1 : BitVec 32 := BitVec.ofNat 32 (i 1).val
  let c4_i32_106 : BitVec 32 := 4#32
  let v255 : BitVec 32 := Scalar.muli arg1 c4_i32_106
  let v256 : BitVec 32 := Scalar.addi v255 c0_i32_107
  let v257 : Index := Scalar.indexCast v256
  let c21 : Index := 21#32
  ![v257.toNat, 21]
def k0_off23 (i : grid0.Coords) (c0_i32_112 : BitVec 32) : Fin 2 → Nat :=
  let arg1 : BitVec 32 := BitVec.ofNat 32 (i 1).val
  let c4_i32_111 : BitVec 32 := 4#32
  let v267 : BitVec 32 := Scalar.muli arg1 c4_i32_111
  let v268 : BitVec 32 := Scalar.addi v267 c0_i32_112
  let v269 : Index := Scalar.indexCast v268
  let c22 : Index := 22#32
  ![v269.toNat, 22]
def k0_off24 (i : grid0.Coords) (c0_i32_117 : BitVec 32) : Fin 2 → Nat :=
  let arg1 : BitVec 32 := BitVec.ofNat 32 (i 1).val
  let c4_i32_116 : BitVec 32 := 4#32
  let v279 : BitVec 32 := Scalar.muli arg1 c4_i32_116
  let v280 : BitVec 32 := Scalar.addi v279 c0_i32_117
  let v281 : Index := Scalar.indexCast v280
  let c23 : Index := 23#32
  ![v281.toNat, 23]
def k0_off25 (i : grid0.Coords) (c0_i32_122 : BitVec 32) : Fin 2 → Nat :=
  let arg1 : BitVec 32 := BitVec.ofNat 32 (i 1).val
  let c4_i32_121 : BitVec 32 := 4#32
  let v291 : BitVec 32 := Scalar.muli arg1 c4_i32_121
  let v292 : BitVec 32 := Scalar.addi v291 c0_i32_122
  let v293 : Index := Scalar.indexCast v292
  let c24 : Index := 24#32
  ![v293.toNat, 24]
def k0_off26 (i : grid0.Coords) (c0_i32_127 : BitVec 32) : Fin 2 → Nat :=
  let arg1 : BitVec 32 := BitVec.ofNat 32 (i 1).val
  let c4_i32_126 : BitVec 32 := 4#32
  let v303 : BitVec 32 := Scalar.muli arg1 c4_i32_126
  let v304 : BitVec 32 := Scalar.addi v303 c0_i32_127
  let v305 : Index := Scalar.indexCast v304
  let c25 : Index := 25#32
  ![v305.toNat, 25]
def k0_off27 (i : grid0.Coords) (c0_i32_132 : BitVec 32) : Fin 2 → Nat :=
  let arg1 : BitVec 32 := BitVec.ofNat 32 (i 1).val
  let c4_i32_131 : BitVec 32 := 4#32
  let v315 : BitVec 32 := Scalar.muli arg1 c4_i32_131
  let v316 : BitVec 32 := Scalar.addi v315 c0_i32_132
  let v317 : Index := Scalar.indexCast v316
  let c26 : Index := 26#32
  ![v317.toNat, 26]
def k0_off28 (i : grid0.Coords) (c0_i32_137 : BitVec 32) : Fin 2 → Nat :=
  let arg1 : BitVec 32 := BitVec.ofNat 32 (i 1).val
  let c4_i32_136 : BitVec 32 := 4#32
  let v327 : BitVec 32 := Scalar.muli arg1 c4_i32_136
  let v328 : BitVec 32 := Scalar.addi v327 c0_i32_137
  let v329 : Index := Scalar.indexCast v328
  let c27 : Index := 27#32
  ![v329.toNat, 27]
def k0_cond2 (i : grid0.Coords) : BitVec 1 :=
  let arg1 : BitVec 32 := BitVec.ofNat 32 (i 1).val
  let c36_i32 : BitVec 32 := 36#32
  let v1399 : BitVec 1 := Scalar.cmpi .eq arg1 c36_i32
  let v1400 : BitVec 32 := Scalar.extui v1399
  let c0_i32_762 : BitVec 32 := 0#32
  let v1401 : BitVec 1 := Scalar.cmpi .ne v1400 c0_i32_762
  v1401

@[reducible] def k0_t1_loop : Scf.Loop 32 :=
  let c0_i32_763 : BitVec 32 := 0#32
  let c16_i32 : BitVec 32 := 16#32
  let v1402 : BitVec 32 := Scalar.addi c0_i32_763 c16_i32
  let c1_i32_764 : BitVec 32 := 1#32
  ⟨c0_i32_763, v1402, c1_i32_764⟩
def k0_off29 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v1406 : Index := Scalar.indexCast v1405
  let c0_768 : Index := 0#32
  ![v1406.toNat, 0]
def k0_off30 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v1527 : Index := Scalar.indexCast v1405
  let c0_806 : Index := 0#32
  ![v1527.toNat, 0]
def k0_off31 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v1634 : Index := Scalar.indexCast v1405
  let c128_847 : Index := 128#32
  ![v1634.toNat, 128]
def k0_off32 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v1741 : Index := Scalar.indexCast v1405
  let c256_888 : Index := 256#32
  ![v1741.toNat, 256]
def k0_off33 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v1848 : Index := Scalar.indexCast v1405
  let c384_929 : Index := 384#32
  ![v1848.toNat, 384]
def k0_off34 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v1955 : Index := Scalar.indexCast v1405
  let c512_970 : Index := 512#32
  ![v1955.toNat, 512]
def k0_off35 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v2062 : Index := Scalar.indexCast v1405
  let c640_1011 : Index := 640#32
  ![v2062.toNat, 640]
def k0_off36 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v2169 : Index := Scalar.indexCast v1405
  let c768_1051 : Index := 768#32
  ![v2169.toNat, 768]
def k0_off37 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v2276 : Index := Scalar.indexCast v1405
  let c896_1091 : Index := 896#32
  ![v2276.toNat, 896]
def k0_off38 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v2383 : Index := Scalar.indexCast v1405
  let c1024_1131 : Index := 1024#32
  ![v2383.toNat, 1024]
def k0_off39 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v2490 : Index := Scalar.indexCast v1405
  let c1152_1172 : Index := 1152#32
  ![v2490.toNat, 1152]
def k0_off40 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v2597 : Index := Scalar.indexCast v1405
  let c1280_1212 : Index := 1280#32
  ![v2597.toNat, 1280]
def k0_off41 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v2704 : Index := Scalar.indexCast v1405
  let c1408_1252 : Index := 1408#32
  ![v2704.toNat, 1408]
def k0_off42 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v2811 : Index := Scalar.indexCast v1405
  let c1536_1292 : Index := 1536#32
  ![v2811.toNat, 1536]
def k0_off43 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v2918 : Index := Scalar.indexCast v1405
  let c1664_1332 : Index := 1664#32
  ![v2918.toNat, 1664]
def k0_off44 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3025 : Index := Scalar.indexCast v1405
  let c1792_1372 : Index := 1792#32
  ![v3025.toNat, 1792]
def k0_off45 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3132 : Index := Scalar.indexCast v1405
  let c1920_1412 : Index := 1920#32
  ![v3132.toNat, 1920]
def k0_off46 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3239 : Index := Scalar.indexCast v1405
  let c2048_1452 : Index := 2048#32
  ![v3239.toNat, 2048]
def k0_off47 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3346 : Index := Scalar.indexCast v1405
  let c2176_1493 : Index := 2176#32
  ![v3346.toNat, 2176]
def k0_off48 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3453 : Index := Scalar.indexCast v1405
  let c2304_1533 : Index := 2304#32
  ![v3453.toNat, 2304]
def k0_off49 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3560 : Index := Scalar.indexCast v1405
  let c2432_1573 : Index := 2432#32
  ![v3560.toNat, 2432]
def k0_off50 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3667 : Index := Scalar.indexCast v1405
  let c2560_1613 : Index := 2560#32
  ![v3667.toNat, 2560]
def k0_off51 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3774 : Index := Scalar.indexCast v1405
  let c2688_1653 : Index := 2688#32
  ![v3774.toNat, 2688]
def k0_off52 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3881 : Index := Scalar.indexCast v1405
  let c2816_1693 : Index := 2816#32
  ![v3881.toNat, 2816]
def k0_off53 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v3988 : Index := Scalar.indexCast v1405
  let c2944_1733 : Index := 2944#32
  ![v3988.toNat, 2944]
def k0_off54 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v4095 : Index := Scalar.indexCast v1405
  let c3072_1774 : Index := 3072#32
  ![v4095.toNat, 3072]
def k0_off55 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v4202 : Index := Scalar.indexCast v1405
  let c3200_1814 : Index := 3200#32
  ![v4202.toNat, 3200]
def k0_off56 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v4309 : Index := Scalar.indexCast v1405
  let c3328_1854 : Index := 3328#32
  ![v4309.toNat, 3328]
def k0_off57 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v4416 : Index := Scalar.indexCast v1405
  let c3456_1894 : Index := 3456#32
  ![v4416.toNat, 3456]
def k0_off58 (k0_t1 : Fin k0_t1_loop.trips) : Fin 2 → Nat :=
  let c0_i32_767 : BitVec 32 := 0#32
  let c0_i32_763 : BitVec 32 := 0#32
  let c1_i32_764 : BitVec 32 := 1#32
  let arg14 : BitVec 32 := Scf.iv c0_i32_763 c1_i32_764 k0_t1
  let c1_i32_766 : BitVec 32 := 1#32
  let v1403 : BitVec 32 := Scalar.muli arg14 c1_i32_766
  let v1404 : BitVec 32 := Scalar.addi c0_i32_767 v1403
  let c32_i32 : BitVec 32 := 32#32
  let v1405 : BitVec 32 := Scalar.muli v1404 c32_i32
  let v4423 : Index := Scalar.indexCast v1405
  let c0_1895 : Index := 0#32
  ![v4423.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S148x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x1024x18944 : Shape := ⟨3, ![2, 1024, 18944]⟩
abbrev S2x1024x148 : Shape := ⟨3, ![2, 1024, 148]⟩
abbrev S18944x3584 : Shape := ⟨2, ![18944, 3584]⟩
abbrev S148x28 : Shape := ⟨2, ![148, 28]⟩
abbrev S2x1024x3584 : Shape := ⟨3, ![2, 1024, 3584]⟩
abbrev S3584 : Shape := ⟨1, ![3584]⟩
abbrev S2048x18944 : Shape := ⟨2, ![2048, 18944]⟩
abbrev S2048x148 : Shape := ⟨2, ![2048, 148]⟩
abbrev S2048x3584 : Shape := ⟨2, ![2048, 3584]⟩
abbrev S1x3584 : Shape := ⟨2, ![1, 3584]⟩
abbrev S2048x128 : Shape := ⟨2, ![2048, 128]⟩
abbrev S2048x148x128 : Shape := ⟨3, ![2048, 148, 128]⟩
abbrev S2048x148x1 : Shape := ⟨3, ![2048, 148, 1]⟩
abbrev S148x128x28x128 : Shape := ⟨4, ![148, 128, 28, 128]⟩
abbrev S148x1x28x1 : Shape := ⟨4, ![148, 1, 28, 1]⟩
abbrev S2048 : Shape := ⟨1, ![2048]⟩
abbrev S2048x1 : Shape := ⟨2, ![2048, 1]⟩
abbrev S2048x28x128 : Shape := ⟨3, ![2048, 28, 128]⟩
abbrev S2048x28 : Shape := ⟨2, ![2048, 28]⟩
abbrev S2048x28x1 : Shape := ⟨3, ![2048, 28, 1]⟩
abbrev S2048x100 : Shape := ⟨2, ![2048, 100]⟩

abbrev nBuf : Space → Nat
  | .hbm => 13
  | .vmem => 9
  | .smem => 0
  | _ => 0

abbrev bufTy : (tb : Table) → Fin (tcTables nBuf tb) → BufTy
  | .hbm, ⟨0, _⟩ => ⟨S2x1024x18944, .fp8e4m3⟩
  | .hbm, ⟨1, _⟩ => ⟨S2x1024x148, .f32⟩
  | .hbm, ⟨2, _⟩ => ⟨S18944x3584, .fp8e4m3⟩
  | .hbm, ⟨3, _⟩ => ⟨S148x28, .f32⟩
  | .hbm, ⟨4, _⟩ => ⟨S2x1024x3584, .bf16⟩
  | .hbm, ⟨5, _⟩ => ⟨S3584, .f32⟩
  | .hbm, ⟨6, _⟩ => ⟨S2048x18944, .fp8e4m3⟩
  | .hbm, ⟨7, _⟩ => ⟨S2048x148, .f32⟩
  | .hbm, ⟨8, _⟩ => ⟨S2048x3584, .bf16⟩
  | .hbm, ⟨9, _⟩ => ⟨S1x3584, .f32⟩
  | .hbm, ⟨10, _⟩ => ⟨S2048x3584, .bf16⟩
  | .hbm, ⟨11, _⟩ => ⟨S2048x3584, .fp8e4m3⟩
  | .hbm, ⟨12, _⟩ => ⟨S2048x128, .f32⟩
  | .local _ .vmem, ⟨0, _⟩ => ⟨S2048x18944, .fp8e4m3⟩
  | .local _ .vmem, ⟨1, _⟩ => ⟨S2048x148, .f32⟩
  | .local _ .vmem, ⟨2, _⟩ => ⟨S18944x3584, .fp8e4m3⟩
  | .local _ .vmem, ⟨3, _⟩ => ⟨S148x28, .f32⟩
  | .local _ .vmem, ⟨4, _⟩ => ⟨S2048x3584, .bf16⟩
  | .local _ .vmem, ⟨5, _⟩ => ⟨S1x3584, .f32⟩
  | .local _ .vmem, ⟨6, _⟩ => ⟨S2048x3584, .bf16⟩
  | .local _ .vmem, ⟨7, _⟩ => ⟨S2048x3584, .fp8e4m3⟩
  | .local _ .vmem, ⟨8, _⟩ => ⟨S2048x128, .f32⟩
  | _, _ => ⟨S2x1024x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x18944 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x148 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S148x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Tiles.lean ====
module

public import proofs.«01_k».proof.Proof.Gen.KernelIdeal.Frame
public import Idealize.ShloMosaic.Lib.Pipeline.ReadBack
public import Idealize.ShloMosaic.Lib.Tactic.RunNames
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

/-- The position in the table of weight scales that the copy of weight tile (r, n) reads, as the kernel computes it. -/
def wOff (i : grid0.Coords) (r : BitVec 32) (n : ℕ) : Fin 2 → ℕ :=
  ![(Scalar.indexCast (Scalar.addi (Scalar.muli (BitVec.ofNat 32 (i 1).val) 4#32) r) : Index).toNat, n]

/-- The kernel's scale position in closed form: row `4 k + r` of the table at grid step `k`, column `n`. -/
theorem wOff_eq (i : grid0.Coords) (r : Fin 4) (n : ℕ) : wOff i (BitVec.ofNat 32 r.val) n = ![4 * (i 1).val + r.val, n] := by
  have h := congrFun (k0_off1_eq i r) 0
  have h' : wOff i (BitVec.ofNat 32 r.val) n 0 = k0_off1 i (BitVec.ofNat 32 r.val) 0 := rfl
  funext a
  match a with
  | ⟨0, _⟩ => exact h'.trans h
  | ⟨1, _⟩ => rfl

theorem wOff_inb (i : grid0.Coords) (n : ℕ) :
    ∀ a, wOff i (BitVec.ofNat 32 (n / 28 % 4)) (n % 28) a + S1x1.size a ≤ S148x28.size a := by
  intro a
  have h := wOff_eq i ⟨n / 28 % 4, Nat.mod_lt _ (by norm_num)⟩ (n % 28)
  have hi : (i 1).val < 37 := (i 1).isLt
  rw [show wOff i (BitVec.ofNat 32 (n / 28 % 4)) (n % 28) = _ from h]
  match a with
  | ⟨0, _⟩ => show 4 * (i 1).val + n / 28 % 4 + 1 ≤ 148; omega
  | ⟨1, _⟩ => show n % 28 + 1 ≤ 28; omega

theorem wTile_inb (n : ℕ) : ∀ a : Fin 2, (![128 * (n / 28 % 4), 128 * (n % 28)] : Fin 2 → ℕ) a + S128x128.size a ≤ S512x3584.size a := by
  intro a
  match a with
  | ⟨0, _⟩ => show 128 * (n / 28 % 4) + 128 ≤ 512; omega
  | ⟨1, _⟩ => show 128 * (n % 28) + 128 ≤ 3584; omega

/-- The `n`-th store into the widened weight block: tile row `n / 28`, tile column `n % 28`, the codes of that tile times
    the tile's one scale. -/
def wPiece (i : grid0.Coords) (arg4 : Memref sig .tc .vmem S512x3584 .fp8e4m3) (harg4 : arg4.IsWhole) (arg5 : Memref sig .tc .smem S148x28 .f32) (harg5 : arg5.IsWhole)
    (x2 : Vec F S512x3584 .fp8e4m3) (x3 : Vec F S148x28 .f32) (n : ℕ) : View.Piece (Elt F) S512x3584 .bf16 :=
  ⟨Rect.unit (s := S512x3584) ![128 * (n / 28 % 4), 128 * (n % 28)] S128x128.size (wTile_inb n),
    k0_pay533 (View.readAt (Elt F) arg5.view (Rect.unit (s := S148x28) (wOff i (BitVec.ofNat 32 (n / 28 % 4)) (n % 28)) S1x1.size (wOff_inb i n)).toLoadRect (harg5.unread x3) (Shape.Idx.first (show 0 < S1x1.numel by decide)))
      (View.readAt (Elt F) arg4.view (Rect.unit (s := S512x3584) ![128 * (n / 28 % 4), 128 * (n % 28)] S128x128.size (wTile_inb n)).toLoadRect (harg4.unread x2))⟩

/-- The first `n` stores into the widened weight block, the newest first. -/
def wPieces (i : grid0.Coords) (arg4 : Memref sig .tc .vmem S512x3584 .fp8e4m3) (harg4 : arg4.IsWhole) (arg5 : Memref sig .tc .smem S148x28 .f32) (harg5 : arg5.IsWhole)
    (x2 : Vec F S512x3584 .fp8e4m3) (x3 : Vec F S148x28 .f32) : ℕ → List (View.Piece (Elt F) S512x3584 .bf16)
  | 0 => []
  | n + 1 => wPiece i arg4 harg4 arg5 harg5 x2 x3 n :: wPieces i arg4 harg4 arg5 harg5 x2 x3 n

theorem wPieces_A (c : Dev nD) (i : grid0.Coords) (arg4 : Memref sig .tc .vmem S512x3584 .fp8e4m3) (harg4 : arg4.IsWhole) (arg5 : Memref sig .tc .smem S148x28 .f32) (harg5 : arg5.IsWhole)
    (x2 : Vec F S512x3584 .fp8e4m3) (x3 : Vec F S148x28 .f32) :
    kernelRun0_A.sl.HS1_112 c i arg4 harg4 arg5 harg5 x2 x3 = wPieces i arg4 harg4 arg5 harg5 x2 x3 112 := by
  sl_kernel_rfl

theorem wPieces_B (c : Dev nD) (i : grid0.Coords) (arg4 : Memref sig .tc .vmem S512x3584 .fp8e4m3) (harg4 : arg4.IsWhole) (arg5 : Memref sig .tc .smem S148x28 .f32) (harg5 : arg5.IsWhole)
    (x2 : Vec F S512x3584 .fp8e4m3) (x3 : Vec F S148x28 .f32) :
    kernelRun0_B.sl.HS1_112 c i arg4 harg4 arg5 harg5 x2 x3 = wPieces i arg4 harg4 arg5 harg5 x2 x3 112 := by
  sl_kernel_rfl

theorem wPieces_C (c : Dev nD) (i : grid0.Coords) (arg4 : Memref sig .tc .vmem S512x3584 .fp8e4m3) (harg4 : arg4.IsWhole) (arg5 : Memref sig .tc .smem S148x28 .f32) (harg5 : arg5.IsWhole)
    (x2 : Vec F S512x3584 .fp8e4m3) (x3 : Vec F S148x28 .f32) :
    kernelRun0_C.sl.HS1_112 c i arg4 harg4 arg5 harg5 x2 x3 = wPieces i arg4 harg4 arg5 harg5 x2 x3 112 := by
  sl_kernel_rfl

theorem hTile_inb (n : ℕ) : ∀ a : Fin 2, (![0, 128 * (n % 4)] : Fin 2 → ℕ) a + S512x128.size a ≤ S512x512.size a := by
  intro a
  match a with
  | ⟨0, _⟩ => show 0 + 512 ≤ 512; omega
  | ⟨1, _⟩ => show 128 * (n % 4) + 128 ≤ 512; omega

theorem hScale_inb (n : ℕ) : ∀ a : Fin 3, (![0, 0, n % 4] : Fin 3 → ℕ) a + S1x512x1.size a ≤ S1x512x4.size a := by
  intro a
  match a with
  | ⟨0, _⟩ => show 0 + 1 ≤ 1; omega
  | ⟨1, _⟩ => show 0 + 512 ≤ 512; omega
  | ⟨2, _⟩ => show n % 4 + 1 ≤ 4; omega

/-- The `n`-th store into the widened activation block: its `n`-th group of 128 columns, the codes times each row's scale
    for that group. -/
def hPiece (arg2 : Memref sig .tc .vmem S512x512 .fp8e4m3) (harg2 : arg2.IsWhole) (arg3 : Memref sig .tc .vmem S1x512x4 .f32) (harg3 : arg3.IsWhole)
    (x0 : Vec F S512x512 .fp8e4m3) (x1 : Vec F S1x512x4 .f32) (n : ℕ) : View.Piece (Elt F) S512x512 .bf16 :=
  ⟨Rect.unit (s := S512x512) ![0, 128 * (n % 4)] S512x128.size (hTile_inb n),
    k0_pay704 (View.readAt (Elt F) arg2.view (Rect.unit (s := S512x512) ![0, 128 * (n % 4)] S512x128.size (hTile_inb n)).toLoadRect (harg2.unread x0))
      (View.readAt (Elt F) arg3.view (Rect.unit (s := S1x512x4) ![0, 0, n % 4] S1x512x1.size (hScale_inb n)).toLoadRect (harg3.unread x1))⟩

/-- The first `n` stores into the widened activation block, the newest first. -/
def hPieces (arg2 : Memref sig .tc .vmem S512x512 .fp8e4m3) (harg2 : arg2.IsWhole) (arg3 : Memref sig .tc .vmem S1x512x4 .f32) (harg3 : arg3.IsWhole)
    (x0 : Vec F S512x512 .fp8e4m3) (x1 : Vec F S1x512x4 .f32) : ℕ → List (View.Piece (Elt F) S512x512 .bf16)
  | 0 => []
  | n + 1 => hPiece arg2 harg2 arg3 harg3 x0 x1 n :: hPieces arg2 harg2 arg3 harg3 x0 x1 n

theorem hPieces_A (c : Dev nD) (arg2 : Memref sig .tc .vmem S512x512 .fp8e4m3) (harg2 : arg2.IsWhole) (arg3 : Memref sig .tc .vmem S1x512x4 .f32) (harg3 : arg3.IsWhole)
    (x0 : Vec F S512x512 .fp8e4m3) (x1 : Vec F S1x512x4 .f32) :
    kernelRun0_A.sl.HS2_4 c arg2 harg2 arg3 harg3 x0 x1 = hPieces arg2 harg2 arg3 harg3 x0 x1 4 := by
  sl_kernel_rfl

theorem hPieces_B (c : Dev nD) (arg2 : Memref sig .tc .vmem S512x512 .fp8e4m3) (harg2 : arg2.IsWhole) (arg3 : Memref sig .tc .vmem S1x512x4 .f32) (harg3 : arg3.IsWhole)
    (x0 : Vec F S512x512 .fp8e4m3) (x1 : Vec F S1x512x4 .f32) :
    kernelRun0_B.sl.HS2_4 c arg2 harg2 arg3 harg3 x0 x1 = hPieces arg2 harg2 arg3 harg3 x0 x1 4 := by
  sl_kernel_rfl

theorem hPieces_C (c : Dev nD) (arg2 : Memref sig .tc .vmem S512x512 .fp8e4m3) (harg2 : arg2.IsWhole) (arg3 : Memref sig .tc .vmem S1x512x4 .f32) (harg3 : arg3.IsWhole)
    (x0 : Vec F S512x512 .fp8e4m3) (x1 : Vec F S1x512x4 .f32) :
    kernelRun0_C.sl.HS2_4 c arg2 harg2 arg3 harg3 x0 x1 = hPieces arg2 harg2 arg3 harg3 x0 x1 4 := by
  sl_kernel_rfl

/-! ## The blocks these stores leave, on extended reals -/

/-- The widened weight block at grid step `i`: codes times the scale of the 128 × 128 tile the position lies in. -/
def wVal (i : grid0.Coords) (x2 : Vec Ideal S512x3584 .fp8e4m3) (x3 : Vec Ideal S148x28 .f32) : S512x3584.Idx → EReal := fun p =>
  x2 p * x3 (ix2 ⟨4 * (i 1).val + (p 0).val / 128, by have h1 : (i 1).val < 37 := (i 1).isLt; have h2 : (p 0).val < 512 := (p 0).isLt; show _ < 148; omega⟩
    ⟨(p 1).val / 128, by have h2 : (p 1).val < 3584 := (p 1).isLt; show _ < 28; omega⟩)

/-- The widened activation block: codes times the row's scale for the group of 128 columns. -/
def hVal (x0 : Vec Ideal S512x512 .fp8e4m3) (x1 : Vec Ideal S1x512x4 .f32) : S512x512.Idx → EReal := fun p =>
  x0 p * x1 (ix3 0 (p 0) ⟨(p 1).val / 128, by have h2 : (p 1).val < 512 := (p 1).isLt; show _ < 4; omega⟩)

theorem wPiece_val (i : grid0.Coords) (arg4 : Memref sig .tc .vmem S512x3584 .fp8e4m3) (harg4 : arg4.IsWhole) (arg5 : Memref sig .tc .smem S148x28 .f32) (harg5 : arg5.IsWhole)
    (x2 : Vec Ideal S512x3584 .fp8e4m3) (x3 : Vec Ideal S148x28 .f32) (n : ℕ) (x) :
    (wPiece i arg4 harg4 arg5 harg5 x2 x3 n).2 x = wVal i x2 x3 ((wPiece i arg4 harg4 arg5 harg5 x2 x3 n).1.emb x) := by
  dsimp only [wPiece]
  unfold wVal k0_pay533
  pointwise
  refine congrArg₂ (· * ·) ((harg4.readAt_unread x2 _ _).trans (congrArg x2 rfl)) ((harg5.readAt_unread x3 _ _).trans (congrArg x3 (funext fun a => Fin.ext ?_)))
  have h := wOff_eq i ⟨n / 28 % 4, Nat.mod_lt _ (by norm_num)⟩ (n % 28)
  have hx0 : (x 0).val < 128 := (x 0).isLt
  have hx1 : (x 1).val < 128 := (x 1).isLt
  match a with
  | ⟨0, _⟩ =>
    show wOff i (BitVec.ofNat 32 (n / 28 % 4)) (n % 28) 0 + 1 * 0 = 4 * (i 1).val + (128 * (n / 28 % 4) + 1 * (x 0).val) / 128
    rw [show wOff i (BitVec.ofNat 32 (n / 28 % 4)) (n % 28) 0 = 4 * (i 1).val + n / 28 % 4 from congrFun h 0]
    omega
  | ⟨1, _⟩ =>
    show n % 28 + 1 * 0 = (128 * (n % 28) + 1 * (x 1).val) / 128
    omega

theorem hPiece_val (arg2 : Memref sig .tc .vmem S512x512 .fp8e4m3) (harg2 : arg2.IsWhole) (arg3 : Memref sig .tc .vmem S1x512x4 .f32) (harg3 : arg3.IsWhole)
    (x0 : Vec Ideal S512x512 .fp8e4m3) (x1 : Vec Ideal S1x512x4 .f32) (n : ℕ) (x) :
    (hPiece arg2 harg2 arg3 harg3 x0 x1 n).2 x = hVal x0 x1 ((hPiece arg2 harg2 arg3 harg3 x0 x1 n).1.emb x) := by
  dsimp only [hPiece]
  unfold hVal k0_pay704
  pointwise
  refine congrArg₂ (· * ·) ((harg2.readAt_unread x0 _ _).trans (congrArg x0 rfl)) ((harg3.readAt_unread x1 _ _).trans (congrArg x1 (funext fun a => Fin.ext ?_)))
  have hx1 : (x 1).val < 128 := (x 1).isLt
  match a with
  | ⟨0, _⟩ => rfl
  | ⟨1, _⟩ => show 0 + 1 * (x 0).val = 0 + 1 * (x 0).val; rfl
  | ⟨2, _⟩ =>
    show n % 4 + 1 * 0 = (128 * (n % 4) + 1 * (x 1).val) / 128
    omega

theorem wPieces_of (i : grid0.Coords) (arg4 : Memref sig .tc .vmem S512x3584 .fp8e4m3) (harg4 : arg4.IsWhole) (arg5 : Memref sig .tc .smem S148x28 .f32) (harg5 : arg5.IsWhole)
    (x2 : Vec Ideal S512x3584 .fp8e4m3) (x3 : Vec Ideal S148x28 .f32) : ∀ n : ℕ,
    ∀ p ∈ wPieces i arg4 harg4 arg5 harg5 x2 x3 n, ∀ x : p.1.shape.Idx, p.2 x = wVal i x2 x3 (p.1.emb x)
  | 0, p, hp, _ => absurd hp List.not_mem_nil
  | n + 1, p, hp, x => by
    rcases List.mem_cons.mp hp with rfl | hp
    · exact wPiece_val i arg4 harg4 arg5 harg5 x2 x3 n x
    · exact wPieces_of i arg4 harg4 arg5 harg5 x2 x3 n p hp x

theorem hPieces_of (arg2 : Memref sig .tc .vmem S512x512 .fp8e4m3) (harg2 : arg2.IsWhole) (arg3 : Memref sig .tc .vmem S1x512x4 .f32) (harg3 : arg3.IsWhole)
    (x0 : Vec Ideal S512x512 .fp8e4m3) (x1 : Vec Ideal S1x512x4 .f32) : ∀ n : ℕ,
    ∀ p ∈ hPieces arg2 harg2 arg3 harg3 x0 x1 n, ∀ x : p.1.shape.Idx, p.2 x = hVal x0 x1 (p.1.emb x)
  | 0, p, hp, _ => absurd hp List.not_mem_nil
  | n + 1, p, hp, x => by
    rcases List.mem_cons.mp hp with rfl | hp
    · exact hPiece_val arg2 harg2 arg3 harg3 x0 x1 n x
    · exact hPieces_of arg2 harg2 arg3 harg3 x0 x1 n p hp x

/-- Every position of the weight block lies in one of the 112 tiles. -/
theorem wPieces_cover (i : grid0.Coords) (arg4 : Memref sig .tc .vmem S512x3584 .fp8e4m3) (harg4 : arg4.IsWhole) (arg5 : Memref sig .tc .smem S148x28 .f32) (harg5 : arg5.IsWhole)
    (x2 : Vec Ideal S512x3584 .fp8e4m3) (x3 : Vec Ideal S148x28 .f32) (y : S512x3584.Idx) : ∀ n : ℕ,
    28 * ((y 0).val / 128) + (y 1).val / 128 < n → ∃ p ∈ wPieces i arg4 harg4 arg5 harg5 x2 x3 n, y ∈ p.1.set
  | 0, h => absurd h (Nat.not_lt_zero _)
  | n + 1, h => by
    rcases Nat.lt_succ_iff_lt_or_eq.mp h with h | h
    · obtain ⟨p, hp, hy⟩ := wPieces_cover i arg4 harg4 arg5 harg5 x2 x3 y n h
      exact ⟨p, List.mem_cons_of_mem _ hp, hy⟩
    · refine ⟨_, List.mem_cons_self, ?_⟩
      have h0 : (y 0).val < 512 := (y 0).isLt
      have h1 : (y 1).val < 3584 := (y 1).isLt
      refine (Rect.mem_set_unit (inb := wTile_inb n)).mpr fun a => ?_
      match a with
      | ⟨0, _⟩ => show 128 * (n / 28 % 4) ≤ (y 0).val ∧ (y 0).val < 128 * (n / 28 % 4) + 128; omega
      | ⟨1, _⟩ => show 128 * (n % 28) ≤ (y 1).val ∧ (y 1).val < 128 * (n % 28) + 128; omega

/-- Every position of the activation block lies in one of its four column groups. -/
theorem hPieces_cover (arg2 : Memref sig .tc .vmem S512x512 .fp8e4m3) (harg2 : arg2.IsWhole) (arg3 : Memref sig .tc .vmem S1x512x4 .f32) (harg3 : arg3.IsWhole)
    (x0 : Vec Ideal S512x512 .fp8e4m3) (x1 : Vec Ideal S1x512x4 .f32) (y : S512x512.Idx) : ∀ n : ℕ,
    (y 1).val / 128 < n → ∃ p ∈ hPieces arg2 harg2 arg3 harg3 x0 x1 n, y ∈ p.1.set
  | 0, h => absurd h (Nat.not_lt_zero _)
  | n + 1, h => by
    rcases Nat.lt_succ_iff_lt_or_eq.mp h with h | h
    · obtain ⟨p, hp, hy⟩ := hPieces_cover arg2 harg2 arg3 harg3 x0 x1 y n h
      exact ⟨p, List.mem_cons_of_mem _ hp, hy⟩
    · refine ⟨_, List.mem_cons_self, ?_⟩
      have h0 : (y 0).val < 512 := (y 0).isLt
      have h1 : (y 1).val < 512 := (y 1).isLt
      refine (Rect.mem_set_unit (inb := hTile_inb n)).mpr fun a => ?_
      match a with
      | ⟨0, _⟩ => show 0 ≤ (y 0).val ∧ (y 0).val < 0 + 512; omega
      | ⟨1, _⟩ => show 128 * (n % 4) ≤ (y 1).val ∧ (y 1).val < 128 * (n % 4) + 128; omega

/-- What reading the whole weight block gives after the 112 stores. -/
theorem wRead (i : grid0.Coords) (arg4 : Memref sig .tc .vmem S512x3584 .fp8e4m3) (harg4 : arg4.IsWhole) (arg5 : Memref sig .tc .smem S148x28 .f32) (harg5 : arg5.IsWhole)
    (arg12 : Memref sig .tc .vmem S512x3584 .bf16) (x2 : Vec Ideal S512x3584 .fp8e4m3) (x3 : Vec Ideal S148x28 .f32) :
    arg12.view.readCov (wPieces i arg4 harg4 arg5 harg5 x2 x3 112) (Rect.unit ![0, 0] S512x3584.size inb_S512x3584_S512x3584_0_0).toLoadRect = wVal i x2 x3 := by
  rw [View.readCov_eq_canon']
  funext j
  have hj : (Rect.unit ![0, 0] S512x3584.size inb_S512x3584_S512x3584_0_0).toLoadRect.idx j = j := by
    funext a; apply Fin.ext
    match a with
    | ⟨0, _⟩ => show 0 + 1 * (j 0).val = (j 0).val; omega
    | ⟨1, _⟩ => show 0 + 1 * (j 1).val = (j 1).val; omega
  rw [hj, View.canon_apply_of_pieces _ _ (wPieces_of i arg4 harg4 arg5 harg5 x2 x3 112) j (wPieces_cover i arg4 harg4 arg5 harg5 x2 x3 j 112 (by have h0 : (j 0).val < 512 := (j 0).isLt; have h1 : (j 1).val < 3584 := (j 1).isLt; omega))]

theorem hRead (arg2 : Memref sig .tc .vmem S512x512 .fp8e4m3) (harg2 : arg2.IsWhole) (arg3 : Memref sig .tc .vmem S1x512x4 .f32) (harg3 : arg3.IsWhole)
    (arg13 : Memref sig .tc .vmem S512x512 .bf16) (x0 : Vec Ideal S512x512 .fp8e4m3) (x1 : Vec Ideal S1x512x4 .f32) :
    arg13.view.readCov (hPieces arg2 harg2 arg3 harg3 x0 x1 4) (Rect.unit ![0, 0] S512x512.size inb_S512x512_S512x512_0_0).toLoadRect = hVal x0 x1 := by
  rw [View.readCov_eq_canon']
  funext j
  have hj : (Rect.unit ![0, 0] S512x512.size inb_S512x512_S512x512_0_0).toLoadRect.idx j = j := by
    funext a; apply Fin.ext
    match a with
    | ⟨0, _⟩ => show 0 + 1 * (j 0).val = (j 0).val; omega
    | ⟨1, _⟩ => show 0 + 1 * (j 1).val = (j 1).val; omega
  rw [hj, View.canon_apply_of_pieces _ _ (hPieces_of arg2 harg2 arg3 harg3 x0 x1 4) j (hPieces_cover arg2 harg2 arg3 harg3 x0 x1 j 4 (by have h1 : (j 1).val < 512 := (j 1).isLt; omega))]

end Cert.KernelIdeal.Val

end
-- ==== Proof.Acc.lean ====
module

public import proofs.«01_k».proof.Proof.Tiles
public import proofs.«01_k».proof.Proof.Gen.KernelIdeal.Value
public import Idealize.ShloMosaic.Lib.Pipeline.ReadBack
public import Idealize.ShloMosaic.Lib.Tactic.RunNames
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Val

open Idealize.ShloMosaic Idealize.ShloMosaic.TcCoe Idealize.SL.Sem
open Cert.KernelIdeal Cert.KernelIdeal.Gen

/-- What one grid step adds to the accumulator: the product of the widened activation block and the widened weight block. -/
def stepSum (i : grid0.Coords) (x0 : Vec Ideal S512x512 .fp8e4m3) (x1 : Vec Ideal S1x512x4 .f32) (x2 : Vec Ideal S512x3584 .fp8e4m3) (x3 : Vec Ideal S148x28 .f32) :
    S512x3584.Idx → EReal := fun y =>
  ∑ k : Fin 512, hVal x0 x1 (ix2 (y 0) k) * wVal i x2 x3 (ix2 k (y 1))

theorem whole_idx (y : S512x3584.Idx) : (Rect.unit (s := S512x3584) ![0, 0] S512x3584.size inb_S512x3584_S512x3584_0_0).toLoadRect.idx y = y := by
  funext a; apply Fin.ext
  match a with
  | ⟨0, _⟩ => show 0 + 1 * (y 0).val = (y 0).val; omega
  | ⟨1, _⟩ => show 0 + 1 * (y 1).val = (y 1).val; omega

theorem payAcc (a : S512x3584.Idx → EReal) (h : S512x512.Idx → EReal) (w : S512x3584.Idx → EReal) (y : S512x3584.Idx) :
    k0_pay1 (F := Ideal) (k0_pay705 (F := Ideal) a h w) y = a y + ∑ k : Fin 512, h (ix2 (y 0) k) * w (ix2 k (y 1)) := by
  unfold k0_pay1 k0_pay705
  pointwise

theorem scover_whole (w : (Rect.unit (s := S512x3584) ![0, 0] ![512, 3584] inb_S512x3584_S512x3584_0_0).shape.Idx → EReal) (L : List (View.Piece (Elt Ideal) S512x3584 .f32)) (y : S512x3584.Idx) :
    ∃ p ∈ ((⟨Rect.unit (s := S512x3584) ![0, 0] ![512, 3584] inb_S512x3584_S512x3584_0_0, w⟩ : View.Piece (Elt Ideal) S512x3584 .f32) :: L), y ∈ p.1.set := by
  have h0 : (y 0).val < 512 := (y 0).isLt
  have h1 : (y 1).val < 3584 := (y 1).isLt
  refine ⟨_, List.mem_cons_self, (Rect.mem_set_unit (inb := inb_S512x3584_S512x3584_0_0)).mpr fun a => ?_⟩
  match a with
  | ⟨0, _⟩ => show 0 ≤ (y 0).val ∧ (y 0).val < 0 + 512; omega
  | ⟨1, _⟩ => show 0 ≤ (y 1).val ∧ (y 1).val < 0 + 3584; omega

/-- The accumulator after a grid step of case A. -/
theorem sout_A (c : Dev nD) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (hc0 : cond0_0 i) (hc1 : ¬cond0_1 i)
    (x0 : Vec Ideal S512x512 .fp8e4m3) (x1 : Vec Ideal S1x512x4 .f32) (x2 : Vec Ideal S512x3584 .fp8e4m3) (x3 : Vec Ideal S148x28 .f32) (x4 : Vec Ideal S512x3584 .bf16) (x5 : Vec Ideal S1x3584 .f32)  (y : S512x3584.Idx) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 y = 0 + stepSum i x0 x1 x2 x3 y := by
  unfold sout0_A_0 kernelRun0_A
  dsimp only
  sl_unfold_run_values
  rw [View.read_writes_eq_canon _ _ _ (fun y => scover_whole _ _ y), View.canon_cons_unit_lit _ _ _ (by decide), payAcc, wPieces_A, hPieces_A, wRead, hRead]
  refine congrArg (· + _) ?_
  delta kernelRun0_A.sl.HS0_1
  sl_unfold_run_values
  rw [View.readCov_unit_lit _ _ _ (by decide)]
  pointwise [k0_pay531]
/-- The accumulator after a grid step of case B. -/
theorem sout_B (c : Dev nD) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (hc0 : ¬cond0_0 i) (hc1 : ¬cond0_1 i)
    (x0 : Vec Ideal S512x512 .fp8e4m3) (x1 : Vec Ideal S1x512x4 .f32) (x2 : Vec Ideal S512x3584 .fp8e4m3) (x3 : Vec Ideal S148x28 .f32) (x4 : Vec Ideal S512x3584 .bf16) (x5 : Vec Ideal S1x3584 .f32) (xs0 : Vec Ideal S512x3584 .f32)  (y : S512x3584.Idx) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 y = xs0 y + stepSum i x0 x1 x2 x3 y := by
  unfold sout0_B_0 kernelRun0_B
  dsimp only
  sl_unfold_run_values
  rw [View.read_writes_eq_canon _ _ _ (fun y => scover_whole _ _ y), View.canon_cons_unit_lit _ _ _ (by decide), payAcc, wPieces_B, hPieces_B, wRead, hRead]
  refine congrArg (· + _) ?_
  exact (harg11.readAt_unread xs0 _ _).trans (congrArg xs0 (whole_idx y))
/-- The accumulator after a grid step of case C. -/
theorem sout_C (c : Dev nD) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (hc0 : ¬cond0_0 i) (hc1 : cond0_1 i)
    (x0 : Vec Ideal S512x512 .fp8e4m3) (x1 : Vec Ideal S1x512x4 .f32) (x2 : Vec Ideal S512x3584 .fp8e4m3) (x3 : Vec Ideal S148x28 .f32) (x4 : Vec Ideal S512x3584 .bf16) (x5 : Vec Ideal S1x3584 .f32) (xs0 : Vec Ideal S512x3584 .f32)  (y : S512x3584.Idx) :
    sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 y = xs0 y + stepSum i x0 x1 x2 x3 y := by
  unfold sout0_C_0 kernelRun0_C
  dsimp only
  delta kernelRun0_C.sl.HS0_1
  sl_unfold_run_values
  rw [View.read_writes_eq_canon _ _ _ (fun y => scover_whole _ _ y), View.canon_cons_unit_lit _ _ _ (by decide), payAcc, wPieces_C, hPieces_C, wRead, hRead]
  refine congrArg (· + _) ?_
  exact (harg11.readAt_unread xs0 _ _).trans (congrArg xs0 (whole_idx y))

variable (m : (ℓ : Loc nD τ sig) → Buf (Elt Ideal) ℓ)

/-- What grid point `t` adds to the accumulator. -/
def accTerm (c : Dev nD) (t : Fin cfg0.N) : S512x3584.Idx → EReal :=
  stepSum (grid0.coords t) (iblk m c 0 t) (iblk m c 1 t) (iblk m c 2 t) (iblk m c 3 t)

theorem acc_A (c : Dev nD) (t : Fin cfg0.N) (h0 : t.val % 37 = 0) (y : S512x3584.Idx) :
    (outsAt0 m c t.val t.isLt).2.2.2 y = 0 + accTerm m c t y := by
  rw [outsAt0_A m c t h0 (by omega)]
  dsimp only
  rw [sout_A, accTerm]

theorem acc_B (c : Dev nD) (t : Fin cfg0.N) (h0 : ¬t.val % 37 = 0) (h1 : ¬t.val % 37 = 36) (y : S512x3584.Idx) :
    (outsAt0 m c t.val t.isLt).2.2.2 y = (outsAt0 m c (t.val - 1) (Nat.lt_of_le_of_lt (Nat.sub_le _ _) t.isLt)).2.2.2 y + accTerm m c t y := by
  rw [outsAt0_B m c t h0 h1]
  dsimp only
  rw [sout_B, accTerm]

theorem acc_C (c : Dev nD) (t : Fin cfg0.N) (h0 : ¬t.val % 37 = 0) (h1 : t.val % 37 = 36) (y : S512x3584.Idx) :
    (outsAt0 m c t.val t.isLt).2.2.2 y = (outsAt0 m c (t.val - 1) (Nat.lt_of_le_of_lt (Nat.sub_le _ _) t.isLt)).2.2.2 y + accTerm m c t y := by
  rw [outsAt0_C m c t h0 h1]
  dsimp only
  rw [sout_C, accTerm]

/-- The accumulator at the last grid step of a row block: the sum of the 37 steps' products. -/
theorem acc_flush (c : Dev nD) (t : Fin cfg0.N) (hf : t.val % 37 = 36) (y : S512x3584.Idx) :
    (outsAt0 m c t.val t.isLt).2.2.2 y = 0 + ∑ s : Fin 37, accTerm m c ⟨37 * (t.val / 37) + s.val, Pipeline.run_point_lt_of_flush t hf s⟩ y :=
  Pipeline.eq_sum_fin_of_reset_step_apply_of_flush (M := EReal) (fun n h (y : S512x3584.Idx) => ((outsAt0 m c n h).2.2.2 y : EReal)) 37 (fun _ => (0 : EReal)) (accTerm m c)
    (fun t h i => acc_A m c t h i)
    (fun t h i => if h1 : t.val % 37 = 36 then acc_C m c t h h1 i else acc_B m c t h h1 i)
    t hf y

end Cert.KernelIdeal.Val

end
-- ==== Proof.Trip.lean ====
module

public import proofs.«01_k».proof.Proof.Gen.KernelIdeal.Frame
public import Idealize.ShloMosaic.Lib.Pipeline.ReadBack
public import Idealize.ShloMosaic.Lib.Tactic.RunNames
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

/-! ## One trip of the closing loop: 32 rows, 28 groups of 128 columns -/

theorem slice_ok : ∀ n : Fin 28, S32x3584.Slices ![0, 128 * n.val] S32x128 := by decide

theorem lane_inb : ∀ n : Fin 28, ∀ a : Fin 2, (![0, 128 * n.val] : Fin 2 → ℕ) a + S1x128.size a ≤ S1x3584.size a := by decide

/-- The normalised group `n` of 32 rows: the group's columns times the row's reciprocal root times the weights of the group. -/
def uG (r : FVec F S32x3584 .f32) (rs : FVec F S32x1 .f32) (w : Vec F S1x128 .f32) (n : Fin 28) : FVec F S32x128 .f32 :=
  mulf (mulf (extractStridedSlice S32x128 ![0, 128 * n.val] r (slice_ok n)) (broadcastTo S32x128 rs broadcasts_S32x1_S32x128))
    (broadcastTo S32x128 (shapeCast S1x128 w shapeCasts_S1x128_S1x128) broadcasts_S1x128_S32x128)

/-- The largest magnitude of each row of a group, over 448. -/
def xG (u : FVec F S32x128 .f32) : FVec F S32x1 .f32 :=
  mulf (shapeCast S32x1 (multiReduction .maximumf [1] S32 (absf u) 0xFF800000#32 reduces_S32x128_S32 (.inl rfl) rfl) shapeCasts_S32_S32x1)
    (broadcast S32x1 (Scalar.ofBits .f32 0x3B124925#32))

/-- Whether the value is below one. -/
def lowG (x : FVec F S32x1 .f32) : IVec S32x1 1 := cmpf .olt x (broadcast S32x1 (Scalar.ofBits .f32 0x3F800000#32))

/-- The value brought to one or above by `2^126` where it was below. -/
def liftG (x : FVec F S32x1 .f32) : FVec F S32x1 .f32 :=
  select (lowG x) (mulf x (broadcast S32x1 (Scalar.ofBits .f32 0x7E800000#32))) x

/-- The scale of each row of a group. -/
def scaleG (x : FVec F S32x1 .f32) : FVec F S32x1 .f32 :=
  k0_pay23 x (k0_pay20 (liftG x)) (k0_pay21 (lowG x) (liftG x) 1#32) (Scalar.ofBits .f32 0x40800000#32)

/-- The codes of a group. -/
def codesG (u : FVec F S32x128 .f32) (x : FVec F S32x1 .f32) : FVec F S32x128 .fp8e4m3 :=
  k0_pay24 u x (k0_pay20 (liftG x)) (k0_pay21 (lowG x) (liftG x) 1#32) (Scalar.ofBits .f32 0x40800000#32)

/-- The rows of a trip read off a whole block. -/
abbrev rowRect (i : grid0.Coords) (k0_h2 : k0_cond2 i = 1#1) (k : Fin k0_t1_loop.trips) : Rect S512x3584 :=
  Rect.unit (s := S512x3584) (k0_off29 k) S32x3584.size (k0_off29_inb i k k0_h2)

/-- Where group `n` of a trip is stored. -/
def groupOff (k : Fin k0_t1_loop.trips) (n : Fin 28) : Fin 2 → ℕ := ![k0_off30 k 0, 128 * n.val]

theorem groupOff_eq (k : Fin k0_t1_loop.trips) (n : Fin 28) : groupOff k n = ![32 * k.val, 128 * n.val] := by
  unfold groupOff; rw [k0_off30_eq]; rfl

theorem group_inb (k : Fin k0_t1_loop.trips) (n : Fin 28) : ∀ a, groupOff k n a + S32x128.size a ≤ S512x3584.size a := by
  have hk : k.val < 16 := Nat.lt_of_lt_of_le k.isLt k0_t1_abs.2.1
  have hn := n.isLt
  rw [groupOff_eq]
  intro a
  match a with
  | ⟨0, _⟩ => show 32 * k.val + 32 ≤ 512; omega
  | ⟨1, _⟩ => show 128 * n.val + 128 ≤ 3584; omega

section
variable (rowsA : Vec F S32x3584 .f32) (rowsR : Vec F S32x3584 .bf16) (w : Fin 28 → Vec F S1x128 .f32)

/-- Group `n` of a trip, normalised, from the accumulator's rows, the residual's rows and the weights. -/
def tripU (n : Fin 28) : FVec F S32x128 .f32 := uG (k0_pay4 rowsA rowsR) (k0_pay5 rowsA rowsR) (w n) n

/-- The code stores of the first `n` groups of a trip, last first. -/
def xcPieces (k : Fin k0_t1_loop.trips) : (n : ℕ) → n ≤ 28 → List (View.Piece (Elt F) S512x3584 .fp8e4m3)
  | 0, _ => []
  | n + 1, h => ⟨Rect.unit (s := S512x3584) (groupOff k ⟨n, h⟩) S32x128.size (group_inb k ⟨n, h⟩),
      codesG (tripU rowsA rowsR w ⟨n, h⟩) (xG (tripU rowsA rowsR w ⟨n, h⟩))⟩ :: xcPieces k n (Nat.le_of_succ_le h)

/-- The scale rows once the first `n` groups have put theirs in lane `n`, other lanes zero. -/
def xsRows : (n : ℕ) → n ≤ 28 → FVec F S32x128 .f32
  | 0, _ => k0_pay6
  | n + 1, h => k0_pay25 (iota .tc S32x128 32 [1] iota_S32x128_d1_w32) (xsRows n (Nat.le_of_succ_le h))
      (scaleG (xG (tripU rowsA rowsR w ⟨n, h⟩))) (BitVec.ofNat 32 n)
end

/-- The weights of group `n` read off the whole row. -/
abbrev laneRead (arg7 : Memref sig .tc .vmem S1x3584 .f32) (X_arg7 : BufTy.Contents (Elt F) arg7.view.ty) (n : Fin 28) : Vec F S1x128 .f32 :=
  View.readAt (Elt F) arg7.view (Rect.unit (s := S1x3584) ![0, 128 * n.val] S1x128.size (lane_inb n)).toLoadRect X_arg7

/-- The row block a trip stores. -/
theorem trip_rout (𝒱 : Variants) (c : Dev nD) (bd : Option 𝒱.V) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (k0_h2 : k0_cond2 i = 1#1) (X_arg6 : BufTy.Contents (Elt F) arg6.view.ty) (X_arg7 : BufTy.Contents (Elt F) arg7.view.ty) (X_arg11 : BufTy.Contents (Elt F) arg11.view.ty) (k : Fin k0_t1_loop.trips)  :
    (trip_k0_t1 (F := F) 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 k).1 = [⟨rowRect i k0_h2 k, k0_pay3 (View.readAt (Elt F) arg11.view (rowRect i k0_h2 k).toLoadRect X_arg11) (View.readAt (Elt F) arg6.view (rowRect i k0_h2 k).toLoadRect X_arg6)⟩] := by
  unfold trip_k0_t1; rfl

/-- The code blocks a trip stores. -/
theorem trip_xc (𝒱 : Variants) (c : Dev nD) (bd : Option 𝒱.V) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (k0_h2 : k0_cond2 i = 1#1) (X_arg6 : BufTy.Contents (Elt F) arg6.view.ty) (X_arg7 : BufTy.Contents (Elt F) arg7.view.ty) (X_arg11 : BufTy.Contents (Elt F) arg11.view.ty) (k : Fin k0_t1_loop.trips)  :
    (trip_k0_t1 (F := F) 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 k).2.1 = xcPieces (View.readAt (Elt F) arg11.view (rowRect i k0_h2 k).toLoadRect X_arg11) (View.readAt (Elt F) arg6.view (rowRect i k0_h2 k).toLoadRect X_arg6) (laneRead arg7 X_arg7) k 28 (Nat.le_refl _) := by
  unfold trip_k0_t1; dsimp only
  sl_kernel_rfl

/-- The scale block a trip stores. -/
theorem trip_xs (𝒱 : Variants) (c : Dev nD) (bd : Option 𝒱.V) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (k0_h2 : k0_cond2 i = 1#1) (X_arg6 : BufTy.Contents (Elt F) arg6.view.ty) (X_arg7 : BufTy.Contents (Elt F) arg7.view.ty) (X_arg11 : BufTy.Contents (Elt F) arg11.view.ty) (k : Fin k0_t1_loop.trips)  :
    (trip_k0_t1 (F := F) 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 k).2.2.1 = [⟨Rect.unit (s := S512x128) (k0_off58 k) S32x128.size (k0_off58_inb i k k0_h2), xsRows (View.readAt (Elt F) arg11.view (rowRect i k0_h2 k).toLoadRect X_arg11) (View.readAt (Elt F) arg6.view (rowRect i k0_h2 k).toLoadRect X_arg6) (laneRead arg7 X_arg7) 28 (Nat.le_refl _)⟩] := by
  unfold trip_k0_t1; dsimp only
  sl_kernel_rfl

end Cert.KernelIdeal.Val
-- ==== Proof.Spec.lean ====
module

public import Idealize.ShloMosaic.Lib.Pointwise

@[expose] public section

noncomputable section

namespace Cert.Spec

open Idealize.ShloMosaic

/-! ## The quantiser's scale, by powers of two -/

/-- Single-precision bits with an empty fraction and the biased exponent `n` stand for `2 ^ (n - 127)`. -/
theorem bits_pow (n : ℕ) (h1 : 1 ≤ n) (h2 : n ≤ 254) :
    Ideal.ofBits .f32 (BitVec.ofNat 32 (n * 8388608)) = (((2 : ℝ) ^ ((n : ℤ) - 127) : ℝ) : EReal) := by
  have key : ∀ n : Fin 255, ((BitVec.ofNat 32 (n.val * 8388608)).extractLsb' 31 1 == 1#1) = false
      ∧ ((BitVec.ofNat 32 (n.val * 8388608)).extractLsb' 23 8).toNat = n.val
      ∧ ((BitVec.ofNat 32 (n.val * 8388608)).extractLsb' 0 23).toNat = 0 := by decide +kernel
  obtain ⟨k1, k2, k3⟩ := key ⟨n, by omega⟩
  dsimp only at k1 k2 k3
  show Ideal.ieee 8 23 _ = _
  unfold Ideal.ieee
  dsimp only
  rw [k1, k2, k3]
  rw [if_neg (by omega), if_neg (by omega)]
  refine congrArg Real.toEReal ?_
  have e : ((n : ℤ) - ((2 : ℤ) ^ (8 - 1) - 1) - ((23 : ℕ) : ℤ)) = (n : ℤ) - 127 - 23 := by norm_num
  rw [e, zpow_sub₀ (two_ne_zero) ((n : ℤ) - 127) 23]
  norm_num
  ring

/-- The state of the search for the exponent: `r = r' · 2 ^ (n - 127)` with `1 ≤ r' < 2 ^ K`. -/
def Search (r : ℝ) (K : ℕ) (y : EReal) (e : BitVec 32) : Prop :=
  ∃ (r' : ℝ) (n : ℕ), y = (r' : EReal) ∧ e = BitVec.ofNat 32 n ∧ 1 ≤ r' ∧ r' < 2 ^ K ∧ r = r' * 2 ^ ((n : ℤ) - 127)

/-- One halving step of the search. -/
theorem Search.step {r : ℝ} {k : ℕ} {y : EReal} {e : BitVec 32} (h : Search r (2 * k) y e) {c c' : EReal} {b : BitVec 32}
    (hc : c = (((2 : ℝ) ^ (k : ℤ) : ℝ) : EReal)) (hc' : c' = (((2 : ℝ) ^ (-(k : ℤ)) : ℝ) : EReal)) (hb : b = BitVec.ofNat 32 k) :
    Search r k (if c ≤ y then y * c' else y) (if c ≤ y then IntOp.addi e b else e) := by
  obtain ⟨r', n, rfl, rfl, h1, h2, h3⟩ := h
  subst hc hc' hb
  by_cases hcy : (((2 : ℝ) ^ (k : ℤ) : ℝ) : EReal) ≤ (r' : EReal)
  · rw [if_pos hcy, if_pos hcy]
    have hr : (2 : ℝ) ^ (k : ℤ) ≤ r' := EReal.coe_le_coe_iff.mp hcy
    have hp : (0 : ℝ) < 2 ^ (k : ℤ) := by positivity
    refine ⟨r' * 2 ^ (-(k : ℤ)), n + k, (EReal.coe_mul _ _).symm, ?_, ?_, ?_, ?_⟩
    · show BitVec.ofNat 32 n + BitVec.ofNat 32 k = _
      exact (BitVec.ofNat_add _ _).symm
    · rw [zpow_neg, ← div_eq_mul_inv, le_div_iff₀ hp, one_mul]; exact hr
    · rw [zpow_neg, ← div_eq_mul_inv, div_lt_iff₀ hp, zpow_natCast, ← pow_add, ← two_mul]; exact h2
    · rw [h3, mul_assoc, ← zpow_add₀ (by norm_num)]
      congr 2; push_cast; ring
  · rw [if_neg hcy, if_neg hcy]
    have hr : r' < (2 : ℝ) ^ (k : ℤ) := by
      by_contra hh; exact hcy (EReal.coe_le_coe_iff.mpr (not_lt.mp hh))
    exact ⟨r', n, rfl, rfl, h1, by rw [← zpow_natCast]; exact hr, h3⟩

/-- One step on the value. -/
def stepY (c c' : BitVec 32) (y : EReal) : EReal := if Ideal.ofBits .f32 c ≤ y then y * Ideal.ofBits .f32 c' else y

/-- One step on the exponent. -/
def stepE (c : BitVec 32) (b : BitVec 32) (y : EReal) (e : BitVec 32) : BitVec 32 := if Ideal.ofBits .f32 c ≤ y then IntOp.addi e b else e

def y0 (x : EReal) : EReal := if x < 1 then x * Ideal.ofBits .f32 2122317824#32 else x
def y1 (x : EReal) : EReal := stepY 0x5F800000#32 0x1F800000#32 (y0 x)
def y2 (x : EReal) : EReal := stepY 0x4F800000#32 0x2F800000#32 (y1 x)
def y3 (x : EReal) : EReal := stepY 0x47800000#32 0x37800000#32 (y2 x)
def y4 (x : EReal) : EReal := stepY 0x43800000#32 0x3B800000#32 (y3 x)
def y5 (x : EReal) : EReal := stepY 0x41800000#32 0x3D800000#32 (y4 x)
def y6 (x : EReal) : EReal := stepY 0x40800000#32 0x3E800000#32 (y5 x)

/-- The biased exponent found by the search. -/
def expo (x : EReal) : BitVec 32 :=
  stepE 0x40000000#32 1#32 (y6 x) <| stepE 0x40800000#32 2#32 (y5 x) <| stepE 0x41800000#32 4#32 (y4 x) <|
  stepE 0x43800000#32 8#32 (y3 x) <| stepE 0x47800000#32 16#32 (y2 x) <| stepE 0x4F800000#32 32#32 (y1 x) <|
  stepE 0x5F800000#32 64#32 (y0 x) (if x < 1 then 1#32 else 127#32)

/-- The exponent field: the found exponent, zero below the smallest normal number, all ones at infinity. -/
def field (x : EReal) : BitVec 32 :=
  IntOp.shli ArithUnit.vector (if x < Ideal.ofBits .f32 2139095040#32 then if Ideal.ofBits .f32 8388608#32 ≤ x then expo x else 0#32 else 255#32) 23#32

/-- The bits of the scale. -/
def word (x : EReal) : BitVec 32 :=
  Scalar.select (IntOp.cmpi CmpIPredicate.eq (field x) 0#32) (1065353216#32) (IntOp.addi (field x) 8388608#32)

/-- The scale and its inverse as the kernel forms them. -/
def kScale (x : EReal) : EReal := Ideal.ofBits .f32 (word x)
def kInv (x : EReal) : EReal := Ideal.ofBits .f32 (IntOp.subi 2130706432#32 (word x))

/-- The exponent as the reference states it: zero for a group below the smallest normal number, else the least power of two above. -/
def rExp (x : EReal) : EReal :=
  let z : EReal := if x < Ideal.ofBits .f32 8388608#32 then 0 else x
  if z = 0 then 0 else Ideal.liftRound Int.floor (Ideal.div (Ideal.log z) (Ideal.log (Ideal.ofBits .f32 0x40000000#32))) + 1

def rScale (x : EReal) : EReal := Ideal.exp2 (rExp x)
def rInv (x : EReal) : EReal := Ideal.exp2 (0 - rExp x)

theorem bits_zpow {b : BitVec 32} (n : ℕ) (z : ℤ) (h1 : 1 ≤ n) (h2 : n ≤ 254) (hb : b = BitVec.ofNat 32 (n * 8388608)) (hz : z = (n : ℤ) - 127) :
    Ideal.ofBits .f32 b = (((2 : ℝ) ^ z : ℝ) : EReal) := by
  rw [hb, hz]; exact bits_pow n h1 h2

/-- The search ends at the exponent of the value. -/
theorem expo_spec (r : ℝ) (h1 : (2 : ℝ) ^ (-126 : ℤ) ≤ r) (h2 : r < 2 ^ (126 : ℤ)) :
    ∃ n : ℕ, expo (r : EReal) = BitVec.ofNat 32 n ∧ 1 ≤ n ∧ n ≤ 252 ∧ (2 : ℝ) ^ ((n : ℤ) - 127) ≤ r ∧ r < 2 ^ ((n : ℤ) - 127 + 1) := by
  have s0 : Search r (2 * 64) (y0 (r : EReal)) (if (r : EReal) < 1 then 1#32 else 127#32) := by
    unfold y0
    by_cases hr : (r : EReal) < 1
    · rw [if_pos hr, if_pos hr]
      have hr' : r < 1 := by exact_mod_cast hr
      refine ⟨r * 2 ^ (126 : ℤ), 1, ?_, rfl, ?_, ?_, ?_⟩
      · rw [bits_zpow 253 126 (by omega) (by omega) rfl (by norm_num), EReal.coe_mul]
      · calc (1 : ℝ) = 2 ^ (-126 : ℤ) * 2 ^ (126 : ℤ) := by norm_num
          _ ≤ _ := by gcongr
      · calc r * 2 ^ (126 : ℤ) ≤ 1 * 2 ^ (126 : ℤ) := by gcongr
          _ < _ := by norm_num
      · rw [mul_assoc, ← zpow_add₀ (by norm_num)]; norm_num
    · rw [if_neg hr, if_neg hr]
      have hr' : 1 ≤ r := by
        by_contra hh; exact hr (by exact_mod_cast not_le.mp hh)
      refine ⟨r, 127, rfl, rfl, hr', h2.trans (by norm_num), by norm_num⟩
  have s1 := s0.step (k := 64) (bits_zpow (b := 0x5F800000#32) 191 (64 : ℕ) (by omega) (by omega) rfl (by norm_num)) (bits_zpow (b := 0x1F800000#32) 63 _ (by omega) (by omega) rfl (by norm_num)) rfl
  have s2 := (show Search _ (2 * 32) _ _ from s1).step (bits_zpow (b := 0x4F800000#32) 159 (32 : ℕ) (by omega) (by omega) rfl (by norm_num)) (bits_zpow (b := 0x2F800000#32) 95 _ (by omega) (by omega) rfl (by norm_num)) rfl
  have s3 := (show Search _ (2 * 16) _ _ from s2).step (bits_zpow (b := 0x47800000#32) 143 (16 : ℕ) (by omega) (by omega) rfl (by norm_num)) (bits_zpow (b := 0x37800000#32) 111 _ (by omega) (by omega) rfl (by norm_num)) rfl
  have s4 := (show Search _ (2 * 8) _ _ from s3).step (bits_zpow (b := 0x43800000#32) 135 (8 : ℕ) (by omega) (by omega) rfl (by norm_num)) (bits_zpow (b := 0x3B800000#32) 119 _ (by omega) (by omega) rfl (by norm_num)) rfl
  have s5 := (show Search _ (2 * 4) _ _ from s4).step (bits_zpow (b := 0x41800000#32) 131 (4 : ℕ) (by omega) (by omega) rfl (by norm_num)) (bits_zpow (b := 0x3D800000#32) 123 _ (by omega) (by omega) rfl (by norm_num)) rfl
  have s6 := (show Search _ (2 * 2) _ _ from s5).step (bits_zpow (b := 0x40800000#32) 129 (2 : ℕ) (by omega) (by omega) rfl (by norm_num)) (bits_zpow (b := 0x3E800000#32) 125 _ (by omega) (by omega) rfl (by norm_num)) rfl
  have s7 := (show Search _ (2 * 1) _ _ from s6).step (bits_zpow (b := 0x40000000#32) 128 (1 : ℕ) (by omega) (by omega) rfl (by norm_num)) (bits_zpow (b := 0x3F000000#32) 126 _ (by omega) (by omega) rfl (by norm_num)) rfl
  obtain ⟨r', n, _, he, hr1, hr2, hr⟩ := s7
  rw [pow_one] at hr2
  have hp : (0 : ℝ) < 2 ^ ((n : ℤ) - 127) := by positivity
  have lo : (2 : ℝ) ^ ((n : ℤ) - 127) ≤ r := by rw [hr]; nlinarith
  have hi : r < 2 ^ ((n : ℤ) - 127 + 1) := by rw [zpow_add₀ (by norm_num), zpow_one, mul_comm, hr]; nlinarith
  have n1 : (n : ℤ) - 127 < 126 := (zpow_lt_zpow_iff_right₀ (by norm_num : (1 : ℝ) < 2)).mp (lo.trans_lt h2)
  have n2 : (-126 : ℤ) < (n : ℤ) - 127 + 1 := (zpow_lt_zpow_iff_right₀ (by norm_num : (1 : ℝ) < 2)).mp (h1.trans_lt hi)
  exact ⟨n, he, by omega, by omega, lo, hi⟩

/-- The bits put together from the exponent `n`. -/
theorem word_bits : ∀ n : Fin 253, 1 ≤ n.val →
    Scalar.select (IntOp.cmpi CmpIPredicate.eq (IntOp.shli ArithUnit.vector (BitVec.ofNat 32 n.val) 23#32) 0#32) (1065353216#32) (IntOp.addi (IntOp.shli ArithUnit.vector (BitVec.ofNat 32 n.val) 23#32) 8388608#32)
      = BitVec.ofNat 32 ((n.val + 1) * 8388608)
    ∧ IntOp.subi 2130706432#32 (BitVec.ofNat 32 ((n.val + 1) * 8388608)) = BitVec.ofNat 32 ((253 - n.val) * 8388608) := by decide +kernel

theorem exp2_int (z : ℤ) : Ideal.exp2 (((z : ℝ) : ℝ) : EReal) = (((2 : ℝ) ^ z : ℝ) : EReal) := by
  rw [Ideal.exp2_coe]; congr 1; exact Real.rpow_intCast 2 z

theorem smallest : Ideal.ofBits .f32 8388608#32 = (((2 : ℝ) ^ (-126 : ℤ) : ℝ) : EReal) := bits_zpow 1 _ (by omega) (by omega) rfl (by norm_num)

/-- For a value from zero to below `2 ^ 126` the kernel's scale and inverse are the reference's. -/
theorem scale_eq (x : EReal) (h0 : 0 ≤ x) (h : x < (((2 : ℝ) ^ (126 : ℤ) : ℝ) : EReal)) : kScale x = rScale x ∧ kInv x = rInv x := by
  have htop : Ideal.ofBits .f32 2139095040#32 = ⊤ := by
    simp [Ideal.ofBits, Ideal.ieee]
  have hx : x < ⊤ := h.trans_le le_top
  by_cases hs : x < Ideal.ofBits .f32 8388608#32
  · have hw : word x = BitVec.ofNat 32 (127 * 8388608) := by
      unfold word field
      rw [htop, if_pos hx, if_neg (not_le.mpr hs)]; decide
    have hr : rExp x = 0 := by unfold rExp; rw [if_pos hs]; exact if_pos rfl
    constructor
    · unfold kScale rScale
      rw [hw, hr, bits_pow 127 (by omega) (by omega)]
      have := exp2_int 0
      simp only [Int.cast_zero, EReal.coe_zero] at this
      rw [this]; norm_num
    · unfold kInv rInv
      rw [hw, hr]
      have e : IntOp.subi 2130706432#32 (BitVec.ofNat 32 (127 * 8388608)) = BitVec.ofNat 32 (127 * 8388608) := by decide
      rw [e, bits_pow 127 (by omega) (by omega), sub_zero]
      have := exp2_int 0
      simp only [Int.cast_zero, EReal.coe_zero] at this
      rw [this]; norm_num
  · have hs' := not_lt.mp hs
    obtain ⟨r, rfl⟩ : ∃ r : ℝ, x = (r : EReal) := ⟨x.toReal, (EReal.coe_toReal hx.ne (lt_of_lt_of_le EReal.bot_lt_zero h0).ne').symm⟩
    have h1 : (2 : ℝ) ^ (-126 : ℤ) ≤ r := by rw [smallest] at hs'; exact EReal.coe_le_coe_iff.mp hs'
    have h2 : r < 2 ^ (126 : ℤ) := EReal.coe_lt_coe_iff.mp h
    obtain ⟨n, he, n1, n2, lo, hi⟩ := expo_spec r h1 h2
    have hpos : 0 < r := lt_of_lt_of_le (by positivity) h1
    obtain ⟨w1, w2⟩ := word_bits ⟨n, by omega⟩ n1
    have hw : word (r : EReal) = BitVec.ofNat 32 ((n + 1) * 8388608) := by
      unfold word field
      rw [htop, if_pos hx, if_pos hs', he]; exact w1
    have hr : rExp (r : EReal) = ((((n : ℤ) - 127 + 1 : ℤ) : ℝ) : EReal) := by
      unfold rExp
      dsimp only
      rw [if_neg hs, if_neg (by exact_mod_cast hpos.ne'), bits_zpow (b := 0x40000000#32) 128 1 (by omega) (by omega) rfl (by norm_num), Ideal.log_coe, if_neg (not_le.mpr hpos), Ideal.log_coe, if_neg (by norm_num), Ideal.div_coe (by rw [zpow_one]; exact (Real.log_pos (by norm_num)).ne')]
      rw [zpow_one]
      have hl : (0 : ℝ) < Real.log 2 := Real.log_pos (by norm_num)
      have hf : ⌊Real.log r / Real.log 2⌋ = (n : ℤ) - 127 := by
        rw [Int.floor_eq_iff]
        constructor
        · rw [le_div_iff₀ hl, ← Real.log_zpow]; exact Real.log_le_log (by positivity) lo
        · rw [div_lt_iff₀ hl, show (((n : ℤ) - 127 : ℤ) : ℝ) + 1 = (((n : ℤ) - 127 + 1 : ℤ) : ℝ) by push_cast; ring, ← Real.log_zpow]
          exact Real.log_lt_log hpos hi
      rw [← EReal.coe_mul, mul_one_div, Ideal.liftRound_coe, hf]
      push_cast; rfl
    constructor
    · have hk : kScale (r : EReal) = Ideal.ofBits .f32 (BitVec.ofNat 32 ((n + 1) * 8388608)) := congrArg (Ideal.ofBits .f32) hw
      rw [hk, rScale, hr, exp2_int, bits_pow (n + 1) (by omega) (by omega), Nat.cast_succ]
      refine congrArg (fun z : ℤ => (((2 : ℝ) ^ z : ℝ) : EReal)) ?_
      ring
    · have hk : kInv (r : EReal) = Ideal.ofBits .f32 (BitVec.ofNat 32 ((253 - n) * 8388608)) := by
        unfold kInv; rw [hw]; exact congrArg (Ideal.ofBits .f32) w2
      have e : (0 : EReal) - ((((n : ℤ) - 127 + 1 : ℤ) : ℝ) : EReal) = (((-((n : ℤ) - 127 + 1) : ℤ) : ℝ) : EReal) := by
        rw [zero_sub, Int.cast_neg, EReal.coe_neg]
      have hc : (((253 - n : ℕ) : ℤ)) = 253 - (n : ℤ) := Nat.cast_sub (show n ≤ 253 by omega)
      rw [hk, bits_pow (253 - n) (by omega) (by omega), rInv, hr, e, exp2_int, hc]
      refine congrArg (fun z : ℤ => (((2 : ℝ) ^ z : ℝ) : EReal)) ?_
      ring

end Cert.Spec
-- ==== Proof.Row.lean ====
module

public import proofs.«01_k».proof.Proof.Spec

@[expose] public section

noncomputable section

namespace Cert.Spec

open Idealize.ShloMosaic

/-! ## One row: the norm, the group maxima and their bound -/

/-- The reciprocal root of the row's mean square. -/
def rsRow (r : Fin 3584 → EReal) : EReal :=
  Ideal.rsqrt (Ideal.div (∑ n, r n * r n) (Ideal.ofBits .f32 1163919360#32) + Ideal.ofBits .f32 897988541#32)

/-- The normalised row. -/
def uRow (r w : Fin 3584 → EReal) (n : Fin 3584) : EReal := r n * rsRow r * w n

/-- Column `l` of group `g`. -/
def col (g : Fin 28) (l : Fin 128) : Fin 3584 := ⟨128 * g.val + l.val, by omega⟩

/-- The largest magnitude in group `g`, over 448. -/
def xRow (u : Fin 3584 → EReal) (g : Fin 28) : EReal :=
  Finset.fold max (Ideal.ofBits .f32 4286578688#32) (fun l : Fin 128 => max (u (col g l)) (-u (col g l))) Finset.univ * Ideal.ofBits .f32 991054117#32

/-- A value clipped to the range of the codes. -/
def clip (v : EReal) : EReal := min (Ideal.ofBits .f32 1138753536#32) (max (Ideal.ofBits .f32 3286237184#32) v)

/-- The group a column lies in. -/
def grp (n : Fin 3584) : Fin 28 := ⟨n.val / 128, by omega⟩

/-- The code of column `n` and the scale of group `g`, by a scale `sc`. -/
def codeRow (inv : EReal → EReal) (r w : Fin 3584 → EReal) (n : Fin 3584) : EReal :=
  clip (uRow r w n * inv (xRow (uRow r w) (grp n)))
def scaleRow (sc : EReal → EReal) (r w : Fin 3584 → EReal) (l : Fin 128) : EReal :=
  if h : l.val < 28 then sc (xRow (uRow r w) ⟨l.val, h⟩) else 0

theorem c3584 : Ideal.ofBits .f32 1163919360#32 = ((3584 : ℝ) : EReal) := by
  simp [Ideal.ofBits, Ideal.ieee, -EReal.coe_mul]; norm_num

theorem ceps : ∃ e : ℝ, 0 < e ∧ Ideal.ofBits .f32 897988541#32 = (e : EReal) := by
  refine ⟨_, ?_, by simp only [Ideal.ofBits, Ideal.ieee]; rw [if_neg (by decide), if_neg (by decide)]⟩
  have h : ((BitVec.extractLsb' (8 + 23) 1 897988541#32 == 1#1)) = false := by decide
  rw [h]; norm_num; positivity

theorem c448 : ∃ e : ℝ, 0 < e ∧ e < 1 / 400 ∧ Ideal.ofBits .f32 991054117#32 = (e : EReal) := by
  refine ⟨_, ?_, ?_, by simp only [Ideal.ofBits, Ideal.ieee]; rw [if_neg (by decide), if_neg (by decide)]⟩
  · have h : ((BitVec.extractLsb' (8 + 23) 1 991054117#32 == 1#1)) = false := by decide
    rw [h]; norm_num; positivity
  · have h : ((BitVec.extractLsb' (8 + 23) 1 991054117#32 == 1#1)) = false := by decide
    have h1 : (BitVec.extractLsb' 23 8 991054117#32).toNat = 118 := by decide
    have h2 : (BitVec.extractLsb' 0 23 991054117#32).toNat = 1198373 := by decide
    rw [h, h1, h2]; norm_num

theorem cmaxw : ∃ e : ℝ, 0 < e ∧ e < 2 ^ (128 : ℕ) ∧ Ideal.ofBits .f32 2139095039#32 = (e : EReal) := by
  refine ⟨_, ?_, ?_, by simp only [Ideal.ofBits, Ideal.ieee]; rw [if_neg (by decide), if_neg (by decide)]⟩
  · have h : ((BitVec.extractLsb' (8 + 23) 1 2139095039#32 == 1#1)) = false := by decide
    rw [h]; norm_num; positivity
  · have h : ((BitVec.extractLsb' (8 + 23) 1 2139095039#32 == 1#1)) = false := by decide
    have h1 : (BitVec.extractLsb' 23 8 2139095039#32).toNat = 254 := by decide
    have h2 : (BitVec.extractLsb' 0 23 2139095039#32).toNat = 8388607 := by decide
    rw [h, h1, h2]; norm_num

theorem cbot : Ideal.ofBits .f32 4286578688#32 = ⊥ := by simp [Ideal.ofBits, Ideal.ieee]

theorem sq_nonneg' (a : EReal) : 0 ≤ a * a := by
  induction a with
  | bot => simp
  | top => simp
  | coe a => rw [← EReal.coe_mul]; exact_mod_cast mul_self_nonneg a

theorem coe_sum' (f : Fin 3584 → ℝ) : ((∑ n, f n : ℝ) : EReal) = ∑ n, (f n : EReal) :=
  map_sum (⟨⟨Real.toEReal, rfl⟩, EReal.coe_add⟩ : ℝ →+ EReal) f Finset.univ

theorem coe_max' (a b : ℝ) : max (a : EReal) (b : EReal) = ((max a b : ℝ) : EReal) :=
  (EReal.coe_strictMono.monotone.map_max).symm

/-- A normalised entry (before the weights) is a real of magnitude at most 60. -/
theorem norm_bound (r : Fin 3584 → EReal) (n : Fin 3584) : ∃ v : ℝ, r n * rsRow r = (v : EReal) ∧ |v| ≤ 60 := by
  obtain ⟨e, he, hee⟩ := ceps
  by_cases hf : ∃ ρ : Fin 3584 → ℝ, r = fun n => (ρ n : EReal)
  · obtain ⟨ρ, rfl⟩ := hf
    have hs : (∑ n, (ρ n : EReal) * (ρ n : EReal)) = ((∑ n, ρ n * ρ n : ℝ) : EReal) := by
      rw [coe_sum']; simp only [EReal.coe_mul]
    set S : ℝ := ∑ n, ρ n * ρ n with hS
    have hS0 : 0 ≤ S := Finset.sum_nonneg fun _ _ => mul_self_nonneg _
    have hn : ρ n * ρ n ≤ S := Finset.single_le_sum (f := fun n => ρ n * ρ n) (fun _ _ => mul_self_nonneg _) (Finset.mem_univ n)
    set Q : ℝ := S * (1 / 3584) + e with hQ
    have hQ0 : 0 < Q := by positivity
    have hr : rsRow (fun n => (ρ n : EReal)) = (((Real.sqrt Q)⁻¹ : ℝ) : EReal) := by
      unfold rsRow
      rw [hs, c3584, Ideal.div_coe (by norm_num), hee, ← EReal.coe_mul, ← EReal.coe_add, Ideal.rsqrt_coe, if_neg (not_lt.mpr hQ0.le), if_neg hQ0.ne']
    refine ⟨ρ n * (Real.sqrt Q)⁻¹, by rw [hr, EReal.coe_mul], ?_⟩
    refine abs_le_of_sq_le_sq ?_ (by norm_num)
    rw [mul_pow, inv_pow, Real.sq_sqrt hQ0.le, ← div_eq_mul_inv, div_le_iff₀ hQ0]
    nlinarith
  · have hn : ∃ k, r k = ⊤ ∨ r k = ⊥ := by
      by_contra hh
      push Not at hh
      exact hf ⟨fun n => (r n).toReal, funext fun n => (EReal.coe_toReal (hh n).1 (hh n).2).symm⟩
    obtain ⟨k, hk⟩ := hn
    have hs : (∑ n, r n * r n) = ⊤ := by
      refine top_le_iff.mp ((le_of_eq ?_).trans (Finset.single_le_sum (f := fun n => r n * r n) (fun _ _ => sq_nonneg' _) (Finset.mem_univ k)))
      rcases hk with hk | hk <;> simp [hk]
    have hr : rsRow r = 0 := by
      unfold rsRow
      have : Ideal.div ⊤ ((3584 : ℝ) : EReal) = ⊤ := by
        rw [Ideal.div_coe (by norm_num)]; exact EReal.top_mul_coe_of_pos (by norm_num)
      rw [hs, c3584, this, hee, EReal.top_add_coe, Ideal.rsqrt_top]
    exact ⟨0, by rw [hr, mul_zero]; rfl, by norm_num⟩

/-- With finite weights every group's value lies where the two statements of the scale agree. -/
theorem x_bound (r w : Fin 3584 → EReal) (hw : ∀ n, max (w n) (-w n) ≤ Ideal.ofBits .f32 2139095039#32) (g : Fin 28) :
    0 ≤ xRow (uRow r w) g ∧ xRow (uRow r w) g < (((2 : ℝ) ^ (126 : ℤ) : ℝ) : EReal) := by
  obtain ⟨M, hM0, hM, hMe⟩ := cmaxw
  obtain ⟨e, he0, he, hee⟩ := c448
  have hu : ∀ n, 0 ≤ max (uRow r w n) (-uRow r w n) ∧ max (uRow r w n) (-uRow r w n) ≤ ((60 * M : ℝ) : EReal) := by
    intro n
    obtain ⟨v, hv, hv60⟩ := norm_bound r n
    have h1 := hw n
    rw [hMe] at h1
    obtain ⟨ω, hω⟩ : ∃ ω : ℝ, w n = (ω : EReal) := by
      refine ⟨(w n).toReal, (EReal.coe_toReal ?_ ?_).symm⟩
      · intro h; rw [h] at h1; simp at h1
      · intro h; rw [h] at h1; simp at h1
    rw [hω, ← EReal.coe_neg, coe_max', EReal.coe_le_coe_iff] at h1
    unfold uRow
    rw [hv, hω, ← EReal.coe_mul, ← EReal.coe_neg, coe_max']
    have ha : max (v * ω) (-(v * ω)) = |v| * |ω| := by rw [← abs_mul]; rfl
    have hb : |ω| ≤ M := h1
    rw [ha]
    constructor
    · exact_mod_cast (by positivity : (0 : ℝ) ≤ |v| * |ω|)
    · refine EReal.coe_le_coe_iff.mpr ?_
      exact mul_le_mul hv60 hb (abs_nonneg _) (by norm_num)
  obtain ⟨m, hm, hm0, hm1⟩ : ∃ m : ℝ, Finset.fold max (Ideal.ofBits .f32 4286578688#32) (fun l : Fin 128 => max (uRow r w (col g l)) (-uRow r w (col g l))) Finset.univ = (m : EReal) ∧ 0 ≤ m ∧ m ≤ 60 * M := by
    set f := Finset.fold max (Ideal.ofBits .f32 4286578688#32) (fun l : Fin 128 => max (uRow r w (col g l)) (-uRow r w (col g l))) Finset.univ with hf
    have lo : 0 ≤ f := (Finset.le_fold_max _).mpr (Or.inr ⟨0, Finset.mem_univ _, (hu _).1⟩)
    have hi : f ≤ ((60 * M : ℝ) : EReal) := (Finset.fold_max_le _).mpr ⟨by rw [cbot]; exact bot_le, fun l _ => (hu _).2⟩
    have e1 : f = ((f.toReal : ℝ) : EReal) := (EReal.coe_toReal (ne_of_lt (lt_of_le_of_lt hi (EReal.coe_lt_top _))) (ne_of_gt (lt_of_lt_of_le EReal.bot_lt_zero lo))).symm
    refine ⟨f.toReal, e1, ?_, ?_⟩
    · rw [e1] at lo; exact_mod_cast lo
    · rw [e1] at hi; exact EReal.coe_le_coe_iff.mp hi
  unfold xRow
  rw [hm, hee, ← EReal.coe_mul]
  constructor
  · exact_mod_cast mul_nonneg hm0 he0.le
  · refine EReal.coe_lt_coe_iff.mpr ?_
    have h1 : m * e ≤ (60 * M) * (1 / 400) := mul_le_mul hm1 he.le he0.le (by positivity)
    refine lt_of_le_of_lt h1 ?_
    calc (60 * M) * (1 / 400) < (60 * 2 ^ (128 : ℕ)) * (1 / 400) := by gcongr
      _ < _ := by norm_num

/-- The kernel's codes and scales are the reference's. -/
theorem code_eq (r w : Fin 3584 → EReal) (hw : ∀ n, max (w n) (-w n) ≤ Ideal.ofBits .f32 2139095039#32) (n : Fin 3584) :
    codeRow kInv r w n = codeRow rInv r w n := by
  obtain ⟨h0, h1⟩ := x_bound r w hw (grp n)
  unfold codeRow
  rw [(scale_eq _ h0 h1).2]

theorem scales_eq (r w : Fin 3584 → EReal) (hw : ∀ n, max (w n) (-w n) ≤ Ideal.ofBits .f32 2139095039#32) (l : Fin 128) :
    scaleRow kScale r w l = scaleRow rScale r w l := by
  unfold scaleRow
  by_cases h : l.val < 28
  · obtain ⟨h0, h1⟩ := x_bound r w hw ⟨l.val, h⟩
    rw [dif_pos h, dif_pos h, (scale_eq _ h0 h1).1]
  · rw [dif_neg h, dif_neg h]

/-! ## The product -/

/-- The group of 128 rows of the weights (columns of the activations) a position of the contracted axis lies in. -/
def kgrp (L : Fin 18944) : Fin 148 := ⟨L.val / 128, by omega⟩

/-- The product of the widened activations and the widened weights: codes times scales on both sides, summed over the contracted axis. -/
def product (A0 : Fin 2048 → Fin 18944 → EReal) (A1 : Fin 2048 → Fin 148 → EReal) (A2 : Fin 18944 → Fin 3584 → EReal) (A3 : Fin 148 → Fin 28 → EReal)
    (R : Fin 2048) (n : Fin 3584) : EReal :=
  ∑ L : Fin 18944, (A0 R L * A1 R (kgrp L)) * (A2 L n * A3 (kgrp L) (grp n))

/-- The residual stream's row after the product is added. -/
def resRow (A0 : Fin 2048 → Fin 18944 → EReal) (A1 : Fin 2048 → Fin 148 → EReal) (A2 : Fin 18944 → Fin 3584 → EReal) (A3 : Fin 148 → Fin 28 → EReal)
    (A4 : Fin 2048 → Fin 3584 → EReal) (R : Fin 2048) (n : Fin 3584) : EReal :=
  product A0 A1 A2 A3 R n + A4 R n

end Cert.Spec
-- ==== Proof.TripVal.lean ====
module

public import proofs.«01_k».proof.Proof.Acc
public import proofs.«01_k».proof.Proof.Trip
public import proofs.«01_k».proof.Proof.Row
public import proofs.«01_k».proof.Proof.Gen.KernelIdeal.Value
public import Idealize.ShloMosaic.Lib.Pipeline.ReadBack
public import Idealize.ShloMosaic.Lib.Tactic.RunNames
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec

/-! ## The values a trip stores, on extended reals -/

section
variable (rowsA : Vec Ideal S32x3584 .f32) (rowsR : Vec Ideal S32x3584 .bf16) (w : Fin 28 → Vec Ideal S1x128 .f32)
  (ρ : Fin 32 → Fin 3584 → EReal) (W : Fin 3584 → EReal)

theorem tripU_apply (hρ : ∀ a n, rowsA (ix2 a n) + rowsR (ix2 a n) = ρ a n) (hW : ∀ n l, w n (ix2 0 l) = W (col n l)) (n : Fin 28) (y : S32x128.Idx) :
    tripU (F := Ideal) rowsA rowsR w n y = uRow (ρ (y 0)) W (col n (y 1)) := by
  obtain rfl : (fun a n => rowsA (ix2 a n) + rowsR (ix2 a n)) = ρ := funext fun a => funext fun n => hρ a n
  unfold tripU uG k0_pay5 k0_pay4 k0_pay3
  pointwise
  exact congrArg₂ (· * ·) rfl (hW n (y 1))

theorem xG_apply (u : FVec Ideal S32x128 .f32) (y : S32x1.Idx) (n : Fin 28) (v : Fin 3584 → EReal) (hu : ∀ l, u (ix2 (y 0) l) = v (col n l)) :
    xG (F := Ideal) u y = xRow v n := by
  unfold xG
  pointwise
  simp only [hu]
  rfl

theorem scaleG_apply (x : FVec Ideal S32x1 .f32) (y : S32x1.Idx) : scaleG (F := Ideal) x y = kScale (x y) := by
  unfold scaleG k0_pay23 k0_pay22 k0_pay21 k0_pay20 k0_pay19 k0_pay18 k0_pay17 k0_pay16 k0_pay15 k0_pay14 k0_pay13 k0_pay12 k0_pay11 liftG lowG
  pointwise
  rfl

theorem codesG_apply (u : FVec Ideal S32x128 .f32) (x : FVec Ideal S32x1 .f32) (y : S32x128.Idx) : codesG (F := Ideal) u x y = clip (u y * kInv (x (ix2 (y 0) 0))) := by
  unfold codesG k0_pay24 k0_pay22 k0_pay21 k0_pay20 k0_pay19 k0_pay18 k0_pay17 k0_pay16 k0_pay15 k0_pay14 k0_pay13 k0_pay12 k0_pay11 liftG lowG
  pointwise
  rfl

theorem cmpi_ofNat (a b : ℕ) (ha : a < 2 ^ 32) (hb : b < 2 ^ 32) :
    IntOp.cmpi CmpIPredicate.eq (BitVec.ofNat 32 a) (BitVec.ofNat 32 b) = BitVec.ofBool (decide (a = b)) := by
  unfold IntOp.cmpi
  refine congrArg BitVec.ofBool ?_
  rw [Bool.eq_iff_iff, beq_iff_eq, decide_eq_true_iff]
  constructor
  · intro hh
    have := congrArg BitVec.toNat hh
    simp only [BitVec.toNat_ofNat] at this
    omega
  · intro hh; rw [hh]

theorem xsRows_apply (hρ : ∀ a n, rowsA (ix2 a n) + rowsR (ix2 a n) = ρ a n) (hW : ∀ n l, w n (ix2 0 l) = W (col n l)) (y : S32x128.Idx) :
    ∀ (n : ℕ) (h : n ≤ 28), xsRows (F := Ideal) rowsA rowsR w n h y = if hl : (y 1).val < n then kScale (xRow (uRow (ρ (y 0)) W) ⟨(y 1).val, Nat.lt_of_lt_of_le hl h⟩) else 0
  | 0, _ => by
    unfold xsRows k0_pay6
    pointwise
    simp
  | n + 1, h => by
    have ih := xsRows_apply hρ hW y n (Nat.le_of_succ_le h)
    have hy : (y 1).val < 128 := (y 1).isLt
    unfold xsRows k0_pay25
    pointwise
    rw [ih, scaleG_apply, xG_apply _ _ ⟨n, h⟩ (uRow (ρ (y 0)) W) (fun l => tripU_apply rowsA rowsR w ρ W hρ hW _ _)]
    have e := cmpi_ofNat (y 1).val n (by omega) (by omega)
    rw [e]
    by_cases h1 : (y 1).val = n
    · rw [decide_eq_true h1]
      unfold Scalar.select
      rw [if_pos (by decide), dif_pos (by omega)]
      exact congrArg (fun g => kScale (xRow (uRow (ρ (y 0)) W) g)) (Fin.ext h1.symm)
    · rw [decide_eq_false h1]
      unfold Scalar.select
      rw [if_neg (by decide)]
      by_cases h2 : (y 1).val < n
      · rw [dif_pos h2, dif_pos (by omega)]
      · rw [dif_neg h2, dif_neg (by omega)]
end

/-! ## The blocks a row block's last grid step stores -/

/-- Row `a` of a block: accumulator plus residual. -/
def rowOf (A R : S512x3584.Idx → EReal) (a : Fin 512) : Fin 3584 → EReal := fun n => A (ix2 a n) + R (ix2 a n)

/-- The weights as a row. -/
def laneOf (W : S1x3584.Idx → EReal) : Fin 3584 → EReal := fun n => W (ix2 0 n)

def blkRes (A R : S512x3584.Idx → EReal) : S512x3584.Idx → EReal := fun y => rowOf A R (y 0) (y 1)
def blkCodes (A R : S512x3584.Idx → EReal) (W : S1x3584.Idx → EReal) : S512x3584.Idx → EReal := fun y => codeRow kInv (rowOf A R (y 0)) (laneOf W) (y 1)
def blkScales (A R : S512x3584.Idx → EReal) (W : S1x3584.Idx → EReal) : S512x128.Idx → EReal := fun y => scaleRow kScale (rowOf A R (y 0)) (laneOf W) (y 1)

/-- Row `a` of trip `k` in its block. -/
def tripRow (k : Fin k0_t1_loop.trips) (a : Fin 32) : Fin 512 := ⟨32 * k.val + a.val, by
  have hk : k.val < 16 := Nat.lt_of_lt_of_le k.isLt k0_t1_abs.2.1
  omega⟩

theorem rowRect_idx (i : grid0.Coords) (k0_h2 : k0_cond2 i = 1#1) (k : Fin k0_t1_loop.trips) (y : S32x3584.Idx) :
    (rowRect i k0_h2 k).toLoadRect.idx y = ix2 (tripRow k (y 0)) (y 1) := by
  funext a; apply Fin.ext
  match a with
  | ⟨0, _⟩ =>
    show k0_off29 k 0 + 1 * (y 0).val = 32 * k.val + (y 0).val
    rw [k0_off29_eq]; show 32 * k.val + 1 * (y 0).val = _; omega
  | ⟨1, _⟩ =>
    show k0_off29 k 1 + 1 * (y 1).val = (y 1).val
    rw [k0_off29_eq]; show 0 + 1 * (y 1).val = _; omega

theorem groupRect_emb (k : Fin k0_t1_loop.trips) (n : Fin 28) (y : S32x128.Idx) :
    (Rect.unit (s := S512x3584) (groupOff k n) S32x128.size (group_inb k n)).emb y = ix2 (tripRow k (y 0)) (col n (y 1)) := by
  funext a; apply Fin.ext
  match a with
  | ⟨0, _⟩ =>
    show groupOff k n 0 + 1 * (y 0).val = 32 * k.val + (y 0).val
    rw [groupOff_eq]; show 32 * k.val + 1 * (y 0).val = _; omega
  | ⟨1, _⟩ =>
    show groupOff k n 1 + 1 * (y 1).val = 128 * n.val + (y 1).val
    rw [groupOff_eq]; show 128 * n.val + 1 * (y 1).val = _; omega

theorem scaleRect_emb (i : grid0.Coords) (k0_h2 : k0_cond2 i = 1#1) (k : Fin k0_t1_loop.trips) (y : S32x128.Idx) :
    (Rect.unit (s := S512x128) (k0_off58 k) S32x128.size (k0_off58_inb i k k0_h2)).emb y = ix2 (tripRow k (y 0)) (y 1) := by
  funext a; apply Fin.ext
  match a with
  | ⟨0, _⟩ =>
    show k0_off58 k 0 + 1 * (y 0).val = 32 * k.val + (y 0).val
    rw [k0_off58_eq]; show 32 * k.val + 1 * (y 0).val = _; omega
  | ⟨1, _⟩ =>
    show k0_off58 k 1 + 1 * (y 1).val = (y 1).val
    rw [k0_off58_eq]; show 0 + 1 * (y 1).val = _; omega

theorem lane_idx (n : Fin 28) (l : Fin 128) :
    (Rect.unit (s := S1x3584) ![0, 128 * n.val] S1x128.size (lane_inb n)).toLoadRect.idx (ix2 0 l) = ix2 0 (col n l) := by
  funext a; apply Fin.ext
  match a with
  | ⟨0, _⟩ => rfl
  | ⟨1, _⟩ => show 128 * n.val + 1 * l.val = 128 * n.val + l.val; omega

theorem grp_col (n : Fin 28) (l : Fin 128) : grp (col n l) = n := by
  apply Fin.ext; show (128 * n.val + l.val) / 128 = n.val; omega

section
variable (A : S512x3584.Idx → EReal) (R : S512x3584.Idx → EReal) (Wv : S1x3584.Idx → EReal)

theorem xcPieces_val (k : Fin k0_t1_loop.trips) (rowsA : Vec Ideal S32x3584 .f32) (rowsR : Vec Ideal S32x3584 .bf16) (w : Fin 28 → Vec Ideal S1x128 .f32)
    (hρ : ∀ a n, rowsA (ix2 a n) + rowsR (ix2 a n) = rowOf A R (tripRow k a) n) (hW : ∀ n l, w n (ix2 0 l) = laneOf Wv (col n l)) :
    ∀ (n : ℕ) (h : n ≤ 28), ∀ p ∈ xcPieces (F := Ideal) rowsA rowsR w k n h, ∀ y, p.2 y = blkCodes A R Wv (p.1.emb y)
  | 0, _ => fun p hp => absurd hp List.not_mem_nil
  | n + 1, h => fun p hp y => by
    rcases List.mem_cons.mp hp with rfl | hp
    · refine (codesG_apply _ _ y).trans ?_
      rw [tripU_apply rowsA rowsR w (fun a => rowOf A R (tripRow k a)) (laneOf Wv) hρ hW,
        xG_apply _ _ ⟨n, h⟩ (uRow (rowOf A R (tripRow k (y 0))) (laneOf Wv)) (fun l => tripU_apply rowsA rowsR w (fun a => rowOf A R (tripRow k a)) (laneOf Wv) hρ hW _ _)]
      show _ = blkCodes A R Wv ((Rect.unit (s := S512x3584) (groupOff k ⟨n, h⟩) S32x128.size (group_inb k ⟨n, h⟩)).emb y)
      rw [groupRect_emb]
      show _ = codeRow kInv (rowOf A R (tripRow k (y 0))) (laneOf Wv) (col ⟨n, h⟩ (y 1))
      exact congrArg (fun g => clip (uRow (rowOf A R (tripRow k (y 0))) (laneOf Wv) (col ⟨n, h⟩ (y 1)) * kInv (xRow (uRow (rowOf A R (tripRow k (y 0))) (laneOf Wv)) g))) (grp_col ⟨n, h⟩ (y 1)).symm
    · exact xcPieces_val k rowsA rowsR w hρ hW n _ p hp y

end

theorem trip_vals (𝒱 : Variants) (c : Dev nD) (bd : Option 𝒱.V) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (k0_h2 : k0_cond2 i = 1#1) (X_arg6 : BufTy.Contents (Elt Ideal) arg6.view.ty) (X_arg7 : BufTy.Contents (Elt Ideal) arg7.view.ty) (X_arg11 : BufTy.Contents (Elt Ideal) arg11.view.ty)  (A R : S512x3584.Idx → EReal) (Wv : S1x3584.Idx → EReal)
    (hA : ∀ y, View.read (Elt Ideal) arg11.view X_arg11 y = A y) (hR : ∀ y, View.read (Elt Ideal) arg6.view X_arg6 y = R y) (hW : ∀ y, View.read (Elt Ideal) arg7.view X_arg7 y = Wv y)
    (k : Fin k0_t1_loop.trips) :
    (∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 k).1, ∀ y, p.2 y = blkRes A R (p.1.emb y))
    ∧ (∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 k).2.1, ∀ y, p.2 y = blkCodes A R Wv (p.1.emb y))
    ∧ (∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 k).2.2.1, ∀ y, p.2 y = blkScales A R Wv (p.1.emb y)) := by
  have h1 : ∀ y : S32x3584.Idx, View.readAt (Elt Ideal) arg11.view (rowRect i k0_h2 k).toLoadRect X_arg11 y = A (ix2 (tripRow k (y 0)) (y 1)) := fun y => by
    rw [View.readAt_apply, hA, rowRect_idx]; rfl
  have h2 : ∀ y : S32x3584.Idx, View.readAt (Elt Ideal) arg6.view (rowRect i k0_h2 k).toLoadRect X_arg6 y = R (ix2 (tripRow k (y 0)) (y 1)) := fun y => by
    rw [View.readAt_apply, hR, rowRect_idx]; rfl
  have h3 : ∀ n l, laneRead (F := Ideal) arg7 X_arg7 n (ix2 0 l) = laneOf Wv (col n l) := fun n l => by
    unfold laneRead
    rw [View.readAt_apply, hW, lane_idx]; rfl
  generalize hgA : View.readAt (Elt Ideal) arg11.view (rowRect i k0_h2 k).toLoadRect X_arg11 = rowsA at h1
  generalize hgR : View.readAt (Elt Ideal) arg6.view (rowRect i k0_h2 k).toLoadRect X_arg6 = rowsR at h2
  have hρ : ∀ (a : Fin 32) (n : Fin 3584), (rowsA : Vec Ideal S32x3584 .f32) (ix2 a n) + (rowsR : Vec Ideal S32x3584 .bf16) (ix2 a n) = rowOf A R (tripRow k a) n := fun a n => by
    rw [h1, h2]; rfl
  refine ⟨?_, ?_, ?_⟩
  · rw [trip_rout, hgA, hgR]
    intro p hp y
    obtain rfl := List.mem_singleton.mp hp
    show k0_pay3 (F := Ideal) rowsA rowsR y = blkRes A R ((rowRect i k0_h2 k).toLoadRect.idx y)
    rw [rowRect_idx]
    refine Eq.trans ?_ (hρ (y 0) (y 1))
    unfold k0_pay3
    pointwise
  · rw [trip_xc, hgA, hgR]
    exact xcPieces_val A R Wv k rowsA rowsR _ hρ h3 28 _
  · rw [trip_xs, hgA, hgR]
    intro p hp y
    obtain rfl := List.mem_singleton.mp hp
    show xsRows (F := Ideal) rowsA rowsR (laneRead arg7 X_arg7) 28 _ y = blkScales A R Wv ((Rect.unit (s := S512x128) (k0_off58 k) S32x128.size (k0_off58_inb i k k0_h2)).emb y)
    rw [scaleRect_emb i k0_h2, xsRows_apply rowsA rowsR _ (fun a => rowOf A R (tripRow k a)) (laneOf Wv) hρ h3]
    rfl

/-- The same for all the trips before `n`. -/
theorem trips_vals (𝒱 : Variants) (c : Dev nD) (bd : Option 𝒱.V) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (k0_h2 : k0_cond2 i = 1#1) (X_arg6 : BufTy.Contents (Elt Ideal) arg6.view.ty) (X_arg7 : BufTy.Contents (Elt Ideal) arg7.view.ty) (X_arg11 : BufTy.Contents (Elt Ideal) arg11.view.ty)  (A R : S512x3584.Idx → EReal) (Wv : S1x3584.Idx → EReal)
    (hA : ∀ y, View.read (Elt Ideal) arg11.view X_arg11 y = A y) (hR : ∀ y, View.read (Elt Ideal) arg6.view X_arg6 y = R y) (hW : ∀ y, View.read (Elt Ideal) arg7.view X_arg7 y = Wv y) :
    ∀ n : ℕ, n ≤ k0_t1_loop.trips →
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 n).1, ∀ y, p.2 y = blkRes A R (p.1.emb y))
    ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 n).2.1, ∀ y, p.2 y = blkCodes A R Wv (p.1.emb y))
    ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 n).2.2, ∀ y, p.2 y = blkScales A R Wv (p.1.emb y)) := by
  intro n
  induction n with
  | zero => exact fun _ => ⟨fun p hp => absurd hp List.not_mem_nil, fun p hp => absurd hp List.not_mem_nil, fun p hp => absurd hp List.not_mem_nil⟩
  | succ n ih =>
    intro h
    obtain ⟨i1, i2, i3⟩ := ih (Nat.le_of_succ_le h)
    obtain ⟨t1, t2, t3⟩ := trip_vals 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 A R Wv hA hR hW ⟨n, h⟩
    rw [pb_k0_t1_succ 𝒱 c bd i arg2 harg2 arg3 harg3 arg4 harg4 arg5 harg5 arg6 harg6 arg7 harg7 arg8 harg8 arg9 harg9 arg10 harg10 arg11 harg11 arg12 harg12 arg13 harg13 k0_h2 X_arg6 X_arg7 X_arg11 ⟨n, h⟩]
    exact ⟨fun p hp => (List.mem_append.mp hp).elim (t1 p) (i1 p), fun p hp => (List.mem_append.mp hp).elim (t2 p) (i2 p), fun p hp => (List.mem_append.mp hp).elim (t3 p) (i3 p)⟩

end Cert.KernelIdeal.Val
-- ==== Proof.Blocks.lean ====
module

public import proofs.«01_k».proof.Proof.TripVal
public import Idealize.ShloMosaic.Lib.Claim
public import proofs.«01_k».proof.Proof.Gen.KernelIdeal.Value
public import Idealize.ShloMosaic.Lib.Pipeline.ReadBack
public import Idealize.ShloMosaic.Lib.Tactic.RunNames
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec

variable (m : (ℓ : Loc nD τ sig) → Buf (Elt Ideal) ℓ)

/-! ## The arrays the kernel's windows read, and their blocks -/

def kA0 (c : Dev nD) (R : Fin 2048) (L : Fin 18944) : EReal := V m c main_v2 (ix2 R L)
def kA1 (c : Dev nD) (R : Fin 2048) (g : Fin 148) : EReal := V m c main_v1 (ix3 (⟨g.val / 4, by omega⟩ : Fin 37) R (⟨g.val % 4, by omega⟩ : Fin 4))
def kA2 (c : Dev nD) (L : Fin 18944) (n : Fin 3584) : EReal := V m c main_arg2 (ix2 L n)
def kA3 (c : Dev nD) (g : Fin 148) (h : Fin 28) : EReal := V m c main_arg3 (ix2 g h)
def kA4 (c : Dev nD) (R : Fin 2048) (n : Fin 3584) : EReal := V m c main_v3 (ix2 R n)
def kA5 (c : Dev nD) (n : Fin 3584) : EReal := V m c main_v4 (ix2 (0 : Fin 1) n)

theorem idx : ∀ t : Fin cfg0.N,
    (win0_0.index t = ![t.val / 37, t.val % 37] ∧ win0_1.index t = ![t.val % 37, t.val / 37, 0] ∧ win0_2.index t = ![t.val % 37, 0])
    ∧ (win0_3.index t = ![0, 0] ∧ win0_4.index t = ![t.val / 37, 0] ∧ win0_5.index t = ![0, 0])
    ∧ (win0_6.index t = ![t.val / 37, 0] ∧ win0_7.index t = ![t.val / 37, 0] ∧ win0_8.index t = ![t.val / 37, 0])
    ∧ (grid0.coords t 1).val = t.val % 37 :=
  (by decide +kernel : ∀ t : Fin grid0.N, _)

theorem t_lt (t : Fin cfg0.N) : t.val < 148 := t.isLt

/-- Row `a` of the row block of grid point `t`. -/
def blkRow (t : Fin cfg0.N) (a : Fin 512) : Fin 2048 := ⟨512 * (t.val / 37) + a.val, by have := t_lt t; omega⟩

/-- Position `k` of the contracted block of grid point `t`. -/
def blkK (t : Fin cfg0.N) (k : Fin 512) : Fin 18944 := ⟨512 * (t.val % 37) + k.val, by omega⟩

theorem iblk_0 (c : Dev nD) (t : Fin cfg0.N) (a k : Fin 512) : iblk m c 0 t (ix2 a k) = kA0 m c (blkRow t a) (blkK t k) := by
  unfold kA0 blkRow blkK
  blk_ext [iblk, (idx t).1.1]

theorem iblk_1 (c : Dev nD) (t : Fin cfg0.N) (a : Fin 512) (p : Fin 4) : iblk m c 1 t (ix3 0 a p) = V m c main_v1 (ix3 (⟨t.val % 37, by omega⟩ : Fin 37) (blkRow t a) p) := by
  unfold blkRow
  blk_ext [iblk, (idx t).1.2.1]

theorem iblk_2 (c : Dev nD) (t : Fin cfg0.N) (k : Fin 512) (n : Fin 3584) : iblk m c 2 t (ix2 k n) = kA2 m c (blkK t k) n := by
  unfold kA2 blkK
  blk_ext [iblk, (idx t).1.2.2]

theorem iblk_3 (c : Dev nD) (t : Fin cfg0.N) (g : Fin 148) (h : Fin 28) : iblk m c 3 t (ix2 g h) = kA3 m c g h := by
  unfold kA3
  blk_ext [iblk, (idx t).2.1.1]

theorem iblk_4 (c : Dev nD) (t : Fin cfg0.N) (a : Fin 512) (n : Fin 3584) : iblk m c 4 t (ix2 a n) = kA4 m c (blkRow t a) n := by
  unfold kA4 blkRow
  blk_ext [iblk, (idx t).2.1.2.1]

theorem iblk_5 (c : Dev nD) (t : Fin cfg0.N) (n : Fin 3584) : iblk m c 5 t (ix2 0 n) = kA5 m c n := by
  unfold kA5
  blk_ext [iblk, (idx t).2.1.2.2]

end Cert.KernelIdeal.Val
-- ==== Proof.Flush.lean ====
module

public import proofs.«01_k».proof.Proof.Blocks
public import proofs.«01_k».proof.Proof.Acc
public import Idealize.ShloMosaic.Lib.Claim
public import proofs.«01_k».proof.Proof.Gen.KernelIdeal.Value
public import Idealize.ShloMosaic.Lib.Pipeline.ReadBack
public import Idealize.ShloMosaic.Lib.Tactic.RunNames
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec

/-! ## What the last step of a row block writes, from the accumulator as that step leaves it -/

/-- The accumulator as the last step's write-out loop reads it is the accumulator that step leaves. -/
theorem acc_read (c : Dev nD) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (hc0 : ¬cond0_0 i) (hc1 : cond0_1 i)
    (x0 : Vec Ideal S512x512 .fp8e4m3) (x1 : Vec Ideal S1x512x4 .f32) (x2 : Vec Ideal S512x3584 .fp8e4m3) (x3 : Vec Ideal S148x28 .f32) (x4 : Vec Ideal S512x3584 .bf16) (x5 : Vec Ideal S1x3584 .f32) (xs0 : Vec Ideal S512x3584 .f32)  (y : S512x3584.Idx) :
    View.read (Elt Ideal) arg11.view (arg11.view.writes (Elt Ideal) arg11.view.junk (kernelRun0_C.sl.HS0_1 (F := Ideal) c i arg2 harg2 arg3 harg3 arg4 harg4 arg5 harg5 arg11 harg11 arg12 arg13 x0 x1 x2 x3 xs0)) y = (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) y := by
  unfold sout0_C_0 kernelRun0_C
  dsimp only
  delta kernelRun0_C.sl.HS0_1
  exact congrFun ((View.read_writes_eq_canon _ _ _ (fun y => scover_whole _ _ y)).trans (View.read_writes_eq_canon _ _ _ (fun y => scover_whole _ _ y)).symm) y

/-- The rows of the residual stream, as the last step of a row block writes them. -/
theorem out_C_6 (c : Dev nD) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (hc0 : ¬cond0_0 i) (hc1 : cond0_1 i)
    (x0 : Vec Ideal S512x512 .fp8e4m3) (x1 : Vec Ideal S1x512x4 .f32) (x2 : Vec Ideal S512x3584 .fp8e4m3) (x3 : Vec Ideal S148x28 .f32) (x4 : Vec Ideal S512x3584 .bf16) (x5 : Vec Ideal S1x3584 .f32) (xs0 : Vec Ideal S512x3584 .f32)  (y : S512x3584.Idx) :
    out0_C_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 y = blkRes (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) x4 y := by
  unfold out0_C_6
  refine View.read_writes_apply_of_pieces _ _ (blkRes (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) x4) _ ?_ y (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 y)
  unfold kernelRun0_C
  dsimp only
  exact (trips_vals Variants.none c none i arg2 harg2 arg3 harg3 arg4 harg4 arg5 harg5 arg6 harg6 arg7 harg7 arg8 harg8 arg9 harg9 arg10 harg10 arg11 harg11 arg12 harg12 arg13 harg13 _ _ _ _ (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) x4 x5 (acc_read c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0)
    (fun y => congrFun (harg6.read_unread x4) y) (fun y => congrFun (harg7.read_unread x5) y) _ le_rfl).1

/-- The codes of the normalised rows, as the last step of a row block writes them. -/
theorem out_C_7 (c : Dev nD) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (hc0 : ¬cond0_0 i) (hc1 : cond0_1 i)
    (x0 : Vec Ideal S512x512 .fp8e4m3) (x1 : Vec Ideal S1x512x4 .f32) (x2 : Vec Ideal S512x3584 .fp8e4m3) (x3 : Vec Ideal S148x28 .f32) (x4 : Vec Ideal S512x3584 .bf16) (x5 : Vec Ideal S1x3584 .f32) (xs0 : Vec Ideal S512x3584 .f32)  (y : S512x3584.Idx) :
    out0_C_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 y = blkCodes (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) x4 x5 y := by
  unfold out0_C_7
  refine View.read_writes_apply_of_pieces _ _ (blkCodes (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) x4 x5) _ ?_ y (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 y)
  unfold kernelRun0_C
  dsimp only
  exact (trips_vals Variants.none c none i arg2 harg2 arg3 harg3 arg4 harg4 arg5 harg5 arg6 harg6 arg7 harg7 arg8 harg8 arg9 harg9 arg10 harg10 arg11 harg11 arg12 harg12 arg13 harg13 _ _ _ _ (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) x4 x5 (acc_read c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0)
    (fun y => congrFun (harg6.read_unread x4) y) (fun y => congrFun (harg7.read_unread x5) y) _ le_rfl).2.1

/-- The scales of the normalised rows, as the last step of a row block writes them. -/
theorem out_C_8 (c : Dev nD) (i : grid0.Coords) (arg2 : Memref sig .tc .vmem S512x512 .fp8e4m3) (harg2 : arg2.IsWhole) (arg3 : Memref sig .tc .vmem S1x512x4 .f32) (harg3 : arg3.IsWhole) (arg4 : Memref sig .tc .vmem S512x3584 .fp8e4m3) (harg4 : arg4.IsWhole) (arg5 : Memref sig .tc .smem S148x28 .f32) (harg5 : arg5.IsWhole) (arg6 : Memref sig .tc .vmem S512x3584 .bf16) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x3584 .fp8e4m3) (harg9 : arg9.IsWhole) (arg10 : Memref sig .tc .vmem S512x128 .f32) (harg10 : arg10.IsWhole) (arg11 : Memref sig .tc .vmem S512x3584 .f32) (harg11 : arg11.IsWhole) (arg12 : Memref sig .tc .vmem S512x3584 .bf16) (harg12 : arg12.IsWhole) (arg13 : Memref sig .tc .vmem S512x512 .bf16) (harg13 : arg13.IsWhole) (hc0 : ¬cond0_0 i) (hc1 : cond0_1 i)
    (x0 : Vec Ideal S512x512 .fp8e4m3) (x1 : Vec Ideal S1x512x4 .f32) (x2 : Vec Ideal S512x3584 .fp8e4m3) (x3 : Vec Ideal S148x28 .f32) (x4 : Vec Ideal S512x3584 .bf16) (x5 : Vec Ideal S1x3584 .f32) (xs0 : Vec Ideal S512x3584 .f32)  (y : S512x128.Idx) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 y = blkScales (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) x4 x5 y := by
  unfold out0_C_8
  refine View.read_writes_apply_of_pieces _ _ (blkScales (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) x4 x5) _ ?_ y (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 y)
  unfold kernelRun0_C
  dsimp only
  exact (trips_vals Variants.none c none i arg2 harg2 arg3 harg3 arg4 harg4 arg5 harg5 arg6 harg6 arg7 harg7 arg8 harg8 arg9 harg9 arg10 harg10 arg11 harg11 arg12 harg12 arg13 harg13 _ _ _ _ (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0) x4 x5 (acc_read c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0)
    (fun y => congrFun (harg6.read_unread x4) y) (fun y => congrFun (harg7.read_unread x5) y) _ le_rfl).2.2

end Cert.KernelIdeal.Val
-- ==== Proof.KernelArrays.lean ====
module

public import proofs.«01_k».proof.Proof.Flush
public import proofs.«01_k».proof.Proof.Acc
public import Idealize.ShloMosaic.Lib.Claim
public import proofs.«01_k».proof.Proof.Gen.KernelIdeal.Value
public import Idealize.ShloMosaic.Lib.Pipeline.ReadBack
public import Idealize.ShloMosaic.Lib.Tactic.RunNames
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec

variable (m : (ℓ : Loc nD τ sig) → Buf (Elt Ideal) ℓ)

/-! ## The kernel's results, as functions of the arrays its windows read -/

/-- What grid point `t` adds to the accumulator, in the arrays the windows read. -/
theorem accTerm_eq (c : Dev nD) (t : Fin cfg0.N) (a : Fin 512) (n : Fin 3584) :
    accTerm m c t (ix2 a n) = ∑ k : Fin 512, (kA0 m c (blkRow t a) (blkK t k) * kA1 m c (blkRow t a) (kgrp (blkK t k)))
      * (kA2 m c (blkK t k) n * kA3 m c (kgrp (blkK t k)) (grp n)) := by
  unfold accTerm stepSum
  refine Finset.sum_congr rfl fun k _ => ?_
  have hk := k.isLt
  refine congrArg₂ (· * ·) ?_ ?_
  · refine congrArg₂ (· * ·) (iblk_0 m c t a k) ((iblk_1 m c t a ⟨k.val / 128, by omega⟩).trans ?_)
    unfold kA1
    refine congrArg (V m c main_v1) (funext fun d => Fin.ext ?_)
    match d with
    | ⟨0, _⟩ => show t.val % 37 = (512 * (t.val % 37) + k.val) / 128 / 4; omega
    | ⟨1, _⟩ => rfl
    | ⟨2, _⟩ => show k.val / 128 = (512 * (t.val % 37) + k.val) / 128 % 4; omega
  · refine congrArg₂ (· * ·) (iblk_2 m c t k n) ((iblk_3 m c t _ _).trans ?_)
    refine congrArg₂ (kA3 m c) (Fin.ext ?_) rfl
    show 4 * (grid0.coords t 1).val + k.val / 128 = (512 * (t.val % 37) + k.val) / 128
    rw [(idx t).2.2.2]
    omega

/-- At the last step of a row block the accumulator holds the block's rows of the product. -/
theorem acc_product (c : Dev nD) (t : Fin cfg0.N) (hf : t.val % 37 = 36) (a : Fin 512) (n : Fin 3584) :
    (outsAt0 m c t.val t.isLt).2.2.2 (ix2 a n) = product (kA0 m c) (kA1 m c) (kA2 m c) (kA3 m c) (blkRow t a) n := by
  rw [acc_flush m c t hf, zero_add]
  unfold product
  rw [Fin.sum_univ_tiles 37 512 rfl]
  refine Finset.sum_congr rfl fun s _ => ?_
  rw [accTerm_eq]
  refine Finset.sum_congr rfl fun k _ => ?_
  have hs := s.isLt
  have ht := t_lt t
  have hR : blkRow ⟨37 * (t.val / 37) + s.val, Pipeline.run_point_lt_of_flush t hf s⟩ a = blkRow t a :=
    Fin.ext (by show 512 * ((37 * (t.val / 37) + s.val) / 37) + a.val = 512 * (t.val / 37) + a.val; omega)
  have hK : blkK ⟨37 * (t.val / 37) + s.val, Pipeline.run_point_lt_of_flush t hf s⟩ k = ⟨s.val * 512 + k.val, by omega⟩ :=
    Fin.ext (by show 512 * ((37 * (t.val / 37) + s.val) % 37) + k.val = s.val * 512 + k.val; omega)
  rw [hR, hK]

/-- The row the last step of a row block writes out, in the arrays the windows read. -/
theorem row_eq (c : Dev nD) (t : Fin cfg0.N) (hf : t.val % 37 = 36) (a : Fin 512) :
    rowOf (outsAt0 m c t.val t.isLt).2.2.2 (iblk m c 4 t) a = resRow (kA0 m c) (kA1 m c) (kA2 m c) (kA3 m c) (kA4 m c) (blkRow t a) :=
  funext fun n => congrArg₂ (· + ·) (acc_product m c t hf a n) (iblk_4 m c t a n)

/-- The norm's weights as the last step of a row block reads them. -/
theorem lane_eq (c : Dev nD) (t : Fin cfg0.N) : laneOf (iblk m c 5 t) = kA5 m c :=
  funext fun n => iblk_5 m c t n

/-- The rows of the residual stream the last step of a row block leaves. -/
theorem res_blk (c : Dev nD) (t : Fin cfg0.N) (hf : t.val % 37 = 36) (y : S512x3584.Idx) :
    (outsAt0 m c t.val t.isLt).1 y = resRow (kA0 m c) (kA1 m c) (kA2 m c) (kA3 m c) (kA4 m c) (blkRow t (y 0)) (y 1) := by
  have h : (outsAt0 m c t.val t.isLt).1 y = blkRes (outsAt0 m c t.val t.isLt).2.2.2 (iblk m c 4 t) y := by
    rw [outsAt0_C m c t (by omega) hf]
    dsimp only
    exact out_C_6 _ _ _ _ _ _ _ _ _ _ _ _ _ _ _ _ _ _ _ _ _ _ _ _ _ _ _ _ _ _ _ _ _ _ _ y
  exact h.trans (congrFun (row_eq m c t hf (y 0)) (y 1))

/-- The rows of the residual stream, over the whole array. -/
theorem res_final (c : Dev nD) : (dats m 0 c).arrAt 6 cfg0.N = fun y : S2048x3584.Idx => resRow (kA0 m c) (kA1 m c) (kA2 m c) (kA3 m c) (kA4 m c) (y 0) (y 1) := by
  refine (dats m 0 c).arrAt_eq_of_covers 6 _ (by decide +kernel) fun t hf y => ?_
  have ht : t.val % 37 = 36 := (flush0_6 t).mp hf
  blk_simp
  rw [after0_6]
  refine (res_blk m c t ht _).trans ?_
  refine congrArg₂ (fun r n => resRow (kA0 m c) (kA1 m c) (kA2 m c) (kA3 m c) (kA4 m c) r n) (Fin.ext ?_) (Fin.ext ?_)
  · blk_simp [(idx t).2.2.1.1]
    exact congrArg (· + _) (Nat.mul_comm 512 _)
  · blk_simp [(idx t).2.2.1.1]

/-- The codes the last step of a row block leaves. -/
theorem codes_blk (c : Dev nD) (t : Fin cfg0.N) (hf : t.val % 37 = 36) (y : S512x3584.Idx) :
    (outsAt0 m c t.val t.isLt).2.1 y = codeRow kInv (resRow (kA0 m c) (kA1 m c) (kA2 m c) (kA3 m c) (kA4 m c) (blkRow t (y 0))) (kA5 m c) (y 1) := by
  have h : (outsAt0 m c t.val t.isLt).2.1 y = blkCodes (outsAt0 m c t.val t.isLt).2.2.2 (iblk m c 4 t) (iblk m c 5 t) y := by
    rw [outsAt0_C m c t (by omega) hf]
    dsimp only
    exact out_C_7 _ _ _ _ _ _ _ _ _ _ _ _ _ _ _ _ _ _ _ _ _ _ _ _ _ _ _ _ _ _ _ _ _ _ _ y
  exact h.trans (congrArg₂ (fun r w => codeRow kInv r w (y 1)) (row_eq m c t hf (y 0)) (lane_eq m c t))

/-- The codes, over the whole array. -/
theorem codes_final (c : Dev nD) : (dats m 0 c).arrAt 7 cfg0.N = fun y : S2048x3584.Idx => codeRow kInv (resRow (kA0 m c) (kA1 m c) (kA2 m c) (kA3 m c) (kA4 m c) (y 0)) (kA5 m c) (y 1) := by
  refine (dats m 0 c).arrAt_eq_of_covers 7 _ (by decide +kernel) fun t hf y => ?_
  have ht : t.val % 37 = 36 := (flush0_7 t).mp hf
  blk_simp
  rw [after0_7]
  refine (codes_blk m c t ht _).trans ?_
  refine congrArg₂ (fun r n => codeRow kInv (resRow (kA0 m c) (kA1 m c) (kA2 m c) (kA3 m c) (kA4 m c) r) (kA5 m c) n) (Fin.ext ?_) (Fin.ext ?_)
  · blk_simp [(idx t).2.2.1.2.1]
    exact congrArg (· + _) (Nat.mul_comm 512 _)
  · blk_simp [(idx t).2.2.1.2.1]

/-- The scales the last step of a row block leaves. -/
theorem scales_blk (c : Dev nD) (t : Fin cfg0.N) (hf : t.val % 37 = 36) (y : S512x128.Idx) :
    (outsAt0 m c t.val t.isLt).2.2.1 y = scaleRow kScale (resRow (kA0 m c) (kA1 m c) (kA2 m c) (kA3 m c) (kA4 m c) (blkRow t (y 0))) (kA5 m c) (y 1) := by
  have h : (outsAt0 m c t.val t.isLt).2.2.1 y = blkScales (outsAt0 m c t.val t.isLt).2.2.2 (iblk m c 4 t) (iblk m c 5 t) y := by
    rw [outsAt0_C m c t (by omega) hf]
    dsimp only
    exact out_C_8 _ _ _ _ _ _ _ _ _ _ _ _ _ _ _ _ _ _ _ _ _ _ _ _ _ _ _ _ _ _ _ _ _ _ _ y
  exact h.trans (congrArg₂ (fun r w => scaleRow kScale r w (y 1)) (row_eq m c t hf (y 0)) (lane_eq m c t))

/-- The scales, over the whole array. -/
theorem scales_final (c : Dev nD) : (dats m 0 c).arrAt 8 cfg0.N = fun y : S2048x128.Idx => scaleRow kScale (resRow (kA0 m c) (kA1 m c) (kA2 m c) (kA3 m c) (kA4 m c) (y 0)) (kA5 m c) (y 1) := by
  refine (dats m 0 c).arrAt_eq_of_covers 8 _ (by decide +kernel) fun t hf y => ?_
  have ht : t.val % 37 = 36 := (flush0_8 t).mp hf
  blk_simp
  rw [after0_8]
  refine (scales_blk m c t ht _).trans ?_
  refine congrArg₂ (fun r n => scaleRow kScale (resRow (kA0 m c) (kA1 m c) (kA2 m c) (kA3 m c) (kA4 m c) r) (kA5 m c) n) (Fin.ext ?_) (Fin.ext ?_)
  · blk_simp [(idx t).2.2.1.2.2]
    exact congrArg (· + _) (Nat.mul_comm 512 _)
  · blk_simp [(idx t).2.2.1.2.2]

end Cert.KernelIdeal.Val
-- ==== Proof.RefArrays.lean ====
module

public import proofs.«01_k».proof.Proof.Row
public import proofs.«01_k».proof.Proof.Gen.ReferenceIdeal.Value
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec

/-! ## The reference's arithmetic, entry by entry -/

section
variable (v0 : Vec Ideal S2048x18944 .fp8e4m3) (v2 : Vec Ideal S2048x148 .f32) (v11 : Vec Ideal S18944x3584 .fp8e4m3) (v12 : Vec Ideal S148x28 .f32) (v21 : Vec Ideal S2048x3584 .bf16)

/-- The residual row the reference computes. -/
def rRow : Fin 2048 → Fin 3584 → EReal :=
  resRow (fun R L => v0 (ix2 R L)) (fun R g => v2 (ix2 R g)) (fun L n => v11 (ix2 L n)) (fun g h => v12 (ix2 g h)) (fun R n => v21 (ix2 R n))

theorem pay5_apply (R : Fin 2048) (n : Fin 3584) : k0_pay5 (F := Ideal) v0 v2 v11 v12 v21 (ix2 R n) = rRow v0 v2 v11 v12 v21 R n := by
  unfold k0_pay5
  pointwise
  rw [add_comm]
  rfl

theorem pay6_apply (R : Fin 2048) (n : Fin 3584) :
    k0_pay6 (F := Ideal) v0 v2 v11 v12 v21 (ix2 R n) = rRow v0 v2 v11 v12 v21 R n * rsRow (rRow v0 v2 v11 v12 v21 R) := by
  have h := pay5_apply v0 v2 v11 v12 v21
  unfold k0_pay6
  dsimp only
  generalize k0_pay5 (F := Ideal) v0 v2 v11 v12 v21 = v at h ⊢
  generalize rRow v0 v2 v11 v12 v21 = ρ at h ⊢
  pointwise
  simp only [h]
  rfl
end

theorem pay7_apply (v38 : Vec Ideal S1x3584 .f32) (R : Fin 2048) (n : Fin 3584) : k0_pay7 (F := Ideal) v38 (ix2 R n) = v38 (ix2 0 n) := by
  unfold k0_pay7
  pointwise

section
variable (v37 v40 : FVec Ideal S2048x3584 .f32)

/-- The row the quantiser sees. -/
def uOf (R : Fin 2048) (n : Fin 3584) : EReal := v37 (ix2 R n) * v40 (ix2 R n)

theorem pay1_apply (R : Fin 2048) (g : Fin 28) (l : Fin 128) : k0_pay1 (F := Ideal) v37 v40 (ix3 R g l) = uOf v37 v40 R (col g l) := by
  unfold k0_pay1
  pointwise
  have h : (⟨g.val * 128 + l.val, by omega⟩ : Fin 3584) = col g l := Fin.ext (by show g.val * 128 + l.val = 128 * g.val + l.val; omega)
  rw [h]
  rfl

theorem pay_absmax (v : FVec Ideal S2048x28x128 .f32) (R : Fin 2048) (g : Fin 28) :
    multiReduction .maximumf [2] S2048x28 (absf v) 0xFF800000#32 reduces_S2048x28x128_S2048x28 (.inl rfl) rfl (ix2 R g)
      = Finset.fold max (Ideal.ofBits .f32 4286578688#32) (fun l : Fin 128 => max (v (ix3 R g l)) (-v (ix3 R g l))) Finset.univ := by
  pointwise
  rfl

theorem pay_exp (v : FVec Ideal S2048x28 .f32) (hv : v = multiReduction .maximumf [2] S2048x28 (absf (k0_pay1 (F := Ideal) v37 v40)) 0xFF800000#32 reduces_S2048x28x128_S2048x28 (.inl rfl) rfl) (y : S2048x28.Idx) :
    k0_pay2 (F := Ideal) v37 v40 y = rExp (v y * Ideal.ofBits .f32 991054117#32) := by
  unfold k0_pay2
  dsimp only
  rw [← hv]
  pointwise
  rfl

theorem pay2_apply (R : Fin 2048) (g : Fin 28) : k0_pay2 (F := Ideal) v37 v40 (ix2 R g) = rExp (xRow (uOf v37 v40 R) g) := by
  rw [pay_exp v37 v40 _ rfl, pay_absmax]
  simp only [pay1_apply]
  rfl

theorem pay_codes (v : FVec Ideal S2048x28x128 .f32) (e : FVec Ideal S2048x28 .f32) (R : Fin 2048) (n : Fin 3584) :
    shapeCast S2048x3584 (truncf .fp8e4m3 (minimumf (broadcast S2048x28x128 (Scalar.ofBits (F := Ideal) .f32 0x43E00000#32))
      (maximumf (broadcast S2048x28x128 (Scalar.ofBits (F := Ideal) .f32 0xC3E00000#32))
        (mulf v (broadcastTo S2048x28x128 (shapeCast S2048x28x1 (exp2 (subf (broadcast S2048x28 (Scalar.ofBits (F := Ideal) .f32 0x00000000#32)) e)) shapeCasts_S2048x28_S2048x28x1)
          broadcasts_S2048x28x1_S2048x28x128)))) bitsLt_fp8e4m3_f32) shapeCasts_S2048x28x128_S2048x3584 (ix2 R n)
      = clip (v (ix3 R (grp n) ⟨n.val % 128, by omega⟩) * Ideal.exp2 (0 - e (ix2 R (grp n)))) := by
  pointwise
  rfl

theorem pay3_apply (R : Fin 2048) (n : Fin 3584) :
    k0_pay3 (F := Ideal) v37 v40 (ix2 R n) = clip (uOf v37 v40 R n * rInv (xRow (uOf v37 v40 R) (grp n))) := by
  have h : col (grp n) ⟨n.val % 128, by omega⟩ = n := Fin.ext (by show 128 * (n.val / 128) + n.val % 128 = n.val; omega)
  refine (pay_codes (k0_pay1 (F := Ideal) v37 v40) (k0_pay2 (F := Ideal) v37 v40) R n).trans ?_
  rw [pay1_apply, pay2_apply, h]
  rfl

theorem pay_scales (e : FVec Ideal S2048x28 .f32) (R : Fin 2048) (l : Fin 128) :
    concatenate S2048x128 1 [⟨S2048x28, exp2 e⟩, ⟨S2048x100, broadcast S2048x100 (Scalar.ofBits (F := Ideal) .f32 0x00000000#32)⟩] concatenates_S2048x28_S2048x100_S2048x128_d1 (ix2 R l)
      = if h : l.val < 28 then Ideal.exp2 (e (ix2 R ⟨l.val, h⟩)) else 0 := by
  pointwise
  rfl

theorem pay4_apply (R : Fin 2048) (l : Fin 128) :
    k0_pay4 (F := Ideal) v37 v40 (ix2 R l) = if h : l.val < 28 then rScale (xRow (uOf v37 v40 R) ⟨l.val, h⟩) else 0 := by
  refine (pay_scales (k0_pay2 (F := Ideal) v37 v40) R l).trans ?_
  by_cases h : l.val < 28
  · rw [dif_pos h, dif_pos h]
    rw [pay2_apply]
    rfl
  · rw [dif_neg h, dif_neg h]
end

variable (m : (ℓ : Loc nD τ sig) → Buf (Elt Ideal) ℓ)

/-! ## The arrays the reference's windows read, and its results -/

def rA0 (c : Dev nD) (R : Fin 2048) (L : Fin 18944) : EReal := V m c main_v0 (ix2 R L)
def rA1 (c : Dev nD) (R : Fin 2048) (g : Fin 148) : EReal := V m c main_v1 (ix2 R g)
def rA2 (c : Dev nD) (L : Fin 18944) (n : Fin 3584) : EReal := V m c main_arg2 (ix2 L n)
def rA3 (c : Dev nD) (g : Fin 148) (h : Fin 28) : EReal := V m c main_arg3 (ix2 g h)
def rA4 (c : Dev nD) (R : Fin 2048) (n : Fin 3584) : EReal := V m c main_v2 (ix2 R n)
def rA5 (c : Dev nD) (n : Fin 3584) : EReal := V m c main_v3 (ix2 (0 : Fin 1) n)

/-- The reference's residual rows, in the arrays its windows read. -/
def rRes (c : Dev nD) : Fin 2048 → Fin 3584 → EReal := resRow (rA0 m c) (rA1 m c) (rA2 m c) (rA3 m c) (rA4 m c)

theorem idx : ∀ t : Fin cfg0.N,
    (win0_0.index t = ![0, 0] ∧ win0_1.index t = ![0, 0] ∧ win0_2.index t = ![0, 0])
    ∧ (win0_3.index t = ![0, 0] ∧ win0_4.index t = ![0, 0] ∧ win0_5.index t = ![0, 0])
    ∧ (win0_6.index t = ![0, 0] ∧ win0_7.index t = ![0, 0] ∧ win0_8.index t = ![0, 0]) :=
  (by decide +kernel : ∀ t : Fin grid0.N, _)

theorem iblk_0 (c : Dev nD) (t : Fin cfg0.N) (R : Fin 2048) (L : Fin 18944) : iblk m c 0 t (ix2 R L) = rA0 m c R L := by
  unfold rA0
  blk_ext [iblk, (idx t).1.1]

theorem iblk_1 (c : Dev nD) (t : Fin cfg0.N) (R : Fin 2048) (g : Fin 148) : iblk m c 1 t (ix2 R g) = rA1 m c R g := by
  unfold rA1
  blk_ext [iblk, (idx t).1.2.1]

theorem iblk_2 (c : Dev nD) (t : Fin cfg0.N) (L : Fin 18944) (n : Fin 3584) : iblk m c 2 t (ix2 L n) = rA2 m c L n := by
  unfold rA2
  blk_ext [iblk, (idx t).1.2.2]

theorem iblk_3 (c : Dev nD) (t : Fin cfg0.N) (g : Fin 148) (h : Fin 28) : iblk m c 3 t (ix2 g h) = rA3 m c g h := by
  unfold rA3
  blk_ext [iblk, (idx t).2.1.1]

theorem iblk_4 (c : Dev nD) (t : Fin cfg0.N) (R : Fin 2048) (n : Fin 3584) : iblk m c 4 t (ix2 R n) = rA4 m c R n := by
  unfold rA4
  blk_ext [iblk, (idx t).2.1.2.1]

theorem iblk_5 (c : Dev nD) (t : Fin cfg0.N) (n : Fin 3584) : iblk m c 5 t (ix2 0 n) = rA5 m c n := by
  unfold rA5
  blk_ext [iblk, (idx t).2.1.2.2]

theorem rRow_blk (c : Dev nD) (t : Fin cfg0.N) : rRow (iblk m c 0 t) (iblk m c 1 t) (iblk m c 2 t) (iblk m c 3 t) (iblk m c 4 t) = rRes m c := by
  unfold rRow rRes
  have h0 := funext fun R => funext fun L => iblk_0 m c t R L
  have h1 := funext fun R => funext fun g => iblk_1 m c t R g
  have h2 := funext fun L => funext fun n => iblk_2 m c t L n
  have h3 := funext fun g => funext fun h => iblk_3 m c t g h
  have h4 := funext fun R => funext fun n => iblk_4 m c t R n
  rw [← h0, ← h1, ← h2, ← h3, ← h4]

theorem uOf_blk (c : Dev nD) (t : Fin cfg0.N) (R : Fin 2048) :
    uOf (k0_pay6 (F := Ideal) (iblk m c 0 t) (iblk m c 1 t) (iblk m c 2 t) (iblk m c 3 t) (iblk m c 4 t)) (k0_pay7 (F := Ideal) (iblk m c 5 t)) R = uRow (rRes m c R) (rA5 m c) := by
  funext n
  unfold uOf uRow
  rw [pay6_apply, pay7_apply, rRow_blk, iblk_5]

theorem out6_eq (x0 : Vec Ideal S2048x18944 .fp8e4m3) (x1 : Vec Ideal S2048x148 .f32) (x2 : Vec Ideal S18944x3584 .fp8e4m3) (x3 : Vec Ideal S148x28 .f32) (x4 : Vec Ideal S2048x3584 .bf16) (x5 : Vec Ideal S1x3584 .f32) : out0_6 (F := Ideal) x0 x1 x2 x3 x4 x5 = k0_pay5 (F := Ideal) x0 x1 x2 x3 x4 := by
  unfold out0_6
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]

theorem out7_eq (x0 : Vec Ideal S2048x18944 .fp8e4m3) (x1 : Vec Ideal S2048x148 .f32) (x2 : Vec Ideal S18944x3584 .fp8e4m3) (x3 : Vec Ideal S148x28 .f32) (x4 : Vec Ideal S2048x3584 .bf16) (x5 : Vec Ideal S1x3584 .f32) : out0_7 (F := Ideal) x0 x1 x2 x3 x4 x5 = k0_pay3 (F := Ideal) (k0_pay6 x0 x1 x2 x3 x4) (k0_pay7 x5) := by
  unfold out0_7 k0_pay8 k0_pay9
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide)]

theorem out8_eq (x0 : Vec Ideal S2048x18944 .fp8e4m3) (x1 : Vec Ideal S2048x148 .f32) (x2 : Vec Ideal S18944x3584 .fp8e4m3) (x3 : Vec Ideal S148x28 .f32) (x4 : Vec Ideal S2048x3584 .bf16) (x5 : Vec Ideal S1x3584 .f32) : out0_8 (F := Ideal) x0 x1 x2 x3 x4 x5 = k0_pay4 (F := Ideal) (k0_pay6 x0 x1 x2 x3 x4) (k0_pay7 x5) := by
  unfold out0_8 k0_pay8 k0_pay9
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide)]

theorem codes_blk (c : Dev nD) (t : Fin cfg0.N) (R : Fin 2048) (n : Fin 3584) :
    k0_pay3 (F := Ideal) (k0_pay6 (F := Ideal) (iblk m c 0 t) (iblk m c 1 t) (iblk m c 2 t) (iblk m c 3 t) (iblk m c 4 t)) (k0_pay7 (F := Ideal) (iblk m c 5 t)) (ix2 R n) = codeRow rInv (rRes m c R) (rA5 m c) n := by
  rw [pay3_apply, uOf_blk]
  rfl

theorem scales_blk (c : Dev nD) (t : Fin cfg0.N) (R : Fin 2048) (n : Fin 128) :
    k0_pay4 (F := Ideal) (k0_pay6 (F := Ideal) (iblk m c 0 t) (iblk m c 1 t) (iblk m c 2 t) (iblk m c 3 t) (iblk m c 4 t)) (k0_pay7 (F := Ideal) (iblk m c 5 t)) (ix2 R n) = scaleRow rScale (rRes m c R) (rA5 m c) n := by
  rw [pay4_apply, uOf_blk]
  rfl

/-- The reference's residual stream, over the whole array. -/
theorem res_final (c : Dev nD) : (dats m 0 c).arrAt 6 cfg0.N = fun y : S2048x3584.Idx => rRes m c (y 0) (y 1) := by
  refine (dats m 0 c).arrAt_eq_of_covers 6 _ (by decide +kernel) fun t hf y => ?_
  blk_simp
  rw [after0_6, out6_eq]
  refine (congrArg (k0_pay5 (F := Ideal) (iblk m c 0 t) (iblk m c 1 t) (iblk m c 2 t) (iblk m c 3 t) (iblk m c 4 t)) (eq_ix2 y)).trans ((pay5_apply (iblk m c 0 t) (iblk m c 1 t) (iblk m c 2 t) (iblk m c 3 t) (iblk m c 4 t) (y 0) (y 1)).trans ?_)
  rw [rRow_blk]
  refine congrArg₂ (rRes m c) (Fin.ext ?_) (Fin.ext ?_)
  · blk_simp [(idx t).2.2.1]
  · blk_simp [(idx t).2.2.1]

/-- The reference's codes, over the whole array. -/
theorem codes_final (c : Dev nD) : (dats m 0 c).arrAt 7 cfg0.N = fun y : S2048x3584.Idx => codeRow rInv (rRes m c (y 0)) (rA5 m c) (y 1) := by
  refine (dats m 0 c).arrAt_eq_of_covers 7 _ (by decide +kernel) fun t hf y => ?_
  blk_simp
  rw [after0_7, out7_eq]
  refine (congrArg (k0_pay3 (F := Ideal) (k0_pay6 (F := Ideal) (iblk m c 0 t) (iblk m c 1 t) (iblk m c 2 t) (iblk m c 3 t) (iblk m c 4 t)) (k0_pay7 (F := Ideal) (iblk m c 5 t))) (eq_ix2 y)).trans ((codes_blk m c t (y 0) (y 1)).trans ?_)
  refine congrArg₂ (fun r n => codeRow rInv (rRes m c r) (rA5 m c) n) (Fin.ext ?_) (Fin.ext ?_)
  · blk_simp [(idx t).2.2.2.1]
  · blk_simp [(idx t).2.2.2.1]

/-- The reference's scales, over the whole array. -/
theorem scales_final (c : Dev nD) : (dats m 0 c).arrAt 8 cfg0.N = fun y : S2048x128.Idx => scaleRow rScale (rRes m c (y 0)) (rA5 m c) (y 1) := by
  refine (dats m 0 c).arrAt_eq_of_covers 8 _ (by decide +kernel) fun t hf y => ?_
  blk_simp
  rw [after0_8, out8_eq]
  refine (congrArg (k0_pay4 (F := Ideal) (k0_pay6 (F := Ideal) (iblk m c 0 t) (iblk m c 1 t) (iblk m c 2 t) (iblk m c 3 t) (iblk m c 4 t)) (k0_pay7 (F := Ideal) (iblk m c 5 t))) (eq_ix2 y)).trans ((scales_blk m c t (y 0) (y 1)).trans ?_)
  refine congrArg₂ (fun r n => scaleRow rScale (rRes m c r) (rA5 m c) n) (Fin.ext ?_) (Fin.ext ?_)
  · blk_simp [(idx t).2.2.2.2]
  · blk_simp [(idx t).2.2.2.2]

end Cert.ReferenceIdeal.Val

end
-- ==== Proof.Compare.lean ====
module

public import proofs.«01_k».proof.Defs
public import proofs.«01_k».proof.Proof.KernelArrays
public import proofs.«01_k».proof.Proof.RefArrays
public import proofs.«01_k».proof.Proof.Gen.Pre_finite
public import Idealize.ShloMosaic.Lib.Claim

@[expose] public section

set_option maxRecDepth 16384

noncomputable section

namespace Cert.Compare

open Idealize.ShloMosaic Idealize.ShloMosaic.TcCoe Idealize.SL.Sem
open Cert.Spec Cert.KernelIdeal.Val Cert.ReferenceIdeal.Val

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-! ## The two programs read the same numbers -/

/-- The activations' scales: the kernel reads them cut into blocks of four groups, the blocks outermost; the reference as they come. -/
theorem scale_blocks (X : Vec Ideal Cert.KernelIdeal.S2x1024x148 .f32) (R : Fin 2048) (g : Fin 148) :
    transpose Cert.KernelIdeal.S37x2048x4 [1, 0, 2] (shapeCast Cert.KernelIdeal.S2048x37x4 X Cert.KernelIdeal.Gen.shapeCasts_S2x1024x148_S2048x37x4)
        Cert.KernelIdeal.Gen.transposes_S2048x37x4_S37x2048x4_1_0_2 (ix3 (⟨g.val / 4, by omega⟩ : Fin 37) R (⟨g.val % 4, by omega⟩ : Fin 4))
      = shapeCast Cert.ReferenceIdeal.S2048x148 X Cert.ReferenceIdeal.Gen.shapeCasts_S2x1024x148_S2048x148 (ix2 R g) := by
  pointwise

/-- The norm's weights as the kernel reads them. -/
theorem weight_row (X : Vec Ideal Cert.KernelIdeal.S3584 .f32) (n : Fin 3584) :
    shapeCast Cert.KernelIdeal.S1x3584 X Cert.KernelIdeal.Gen.shapeCasts_S3584_S1x3584 (ix2 0 n) = X (ix1 n) := by
  pointwise

theorem A0_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) : kA0 m c = rA0 m' c := by
  funext R; funext L
  unfold kA0 rA0
  entry_read
  exact congrArg (fun X : Cert.KernelIdeal.S2x1024x18944.Idx → EReal => shapeCast Cert.KernelIdeal.S2048x18944 X Cert.KernelIdeal.Gen.shapeCasts_S2x1024x18944_S2048x18944 (ix2 R L)) h0.symm

theorem A1_eq (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : kA1 m c = rA1 m' c := by
  funext R; funext g
  unfold kA1 rA1
  entry_read
  exact (scale_blocks _ R g).trans (congrArg (fun X : Cert.KernelIdeal.S2x1024x148.Idx → EReal => shapeCast Cert.ReferenceIdeal.S2048x148 X Cert.ReferenceIdeal.Gen.shapeCasts_S2x1024x148_S2048x148 (ix2 R g)) h1.symm)

theorem A2_eq (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : kA2 m c = rA2 m' c := by
  funext L; funext n
  unfold kA2 rA2
  entry_read
  exact congrFun h2.symm (ix2 L n)

theorem A3_eq (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : kA3 m c = rA3 m' c := by
  funext g; funext h
  unfold kA3 rA3
  entry_read
  exact congrFun h3.symm (ix2 g h)

theorem A4_eq (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) : kA4 m c = rA4 m' c := by
  funext R; funext n
  unfold kA4 rA4
  entry_read
  exact congrArg (fun X : Cert.KernelIdeal.S2x1024x3584.Idx → EReal => shapeCast Cert.KernelIdeal.S2048x3584 X Cert.KernelIdeal.Gen.shapeCasts_S2x1024x3584_S2048x3584 (ix2 R n)) h4.symm

theorem A5_eq (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) : kA5 m c = rA5 m' c := by
  funext n
  unfold kA5 rA5
  entry_read
  exact congrArg (fun X : Cert.KernelIdeal.S3584.Idx → EReal => shapeCast Cert.KernelIdeal.S1x3584 X Cert.KernelIdeal.Gen.shapeCasts_S3584_S1x3584 (ix2 (0 : Fin 1) n)) h5.symm

/-- The precondition, as the norm's weights are read. -/
theorem weights_finite (hp : Cert.Pre_KernelIdeal_finite m) (n : Fin 3584) : max (kA5 m c n) (-kA5 m c n) ≤ Ideal.ofBits .f32 2139095039#32 := by
  unfold kA5
  entry_read
  have h := congrFun (hp c) (ix1 n)
  unfold Cert.Pre_finite.fn at h
  pointwise at h
  refine (congrArg (fun v : EReal => max v (-v)) (weight_row _ n)).trans_le (of_decide_eq_true (by_contra fun hd => ?_))
  exact absurd (h.symm.trans (congrArg BitVec.ofBool (Bool.eq_false_of_not_eq_true hd))) (by decide)

section
variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
include h0 h1 h2 h3 h4

theorem res_eq : resRow (kA0 m c) (kA1 m c) (kA2 m c) (kA3 m c) (kA4 m c) = rRes m' c := by
  unfold rRes
  rw [A0_eq m m' c h0, A1_eq m m' c h1, A2_eq m m' c h2, A3_eq m m' c h3, A4_eq m m' c h4]

/-- The residual streams agree. -/
theorem res_arrays : (Cert.ReferenceIdeal.Gen.dats m' 0 c).arrAt 6 Cert.ReferenceIdeal.cfg0.N = (Cert.KernelIdeal.Gen.dats m 0 c).arrAt 6 Cert.KernelIdeal.cfg0.N := by
  refine (Cert.ReferenceIdeal.Val.res_final m' c).trans (Eq.trans ?_ (Cert.KernelIdeal.Val.res_final m c).symm)
  exact congrArg (fun f : Fin 2048 → Fin 3584 → EReal => fun y : Cert.KernelIdeal.S2048x3584.Idx => f (y 0) (y 1)) (res_eq m m' c h0 h1 h2 h3 h4).symm

include h5

/-- The codes agree. -/
theorem codes_arrays (hp : Cert.Pre_KernelIdeal_finite m) : (Cert.ReferenceIdeal.Gen.dats m' 0 c).arrAt 7 Cert.ReferenceIdeal.cfg0.N = (Cert.KernelIdeal.Gen.dats m 0 c).arrAt 7 Cert.KernelIdeal.cfg0.N := by
  refine (Cert.ReferenceIdeal.Val.codes_final m' c).trans (Eq.trans ?_ (Cert.KernelIdeal.Val.codes_final m c).symm)
  rw [res_eq m m' c h0 h1 h2 h3 h4]
  refine funext fun y => ?_
  refine Eq.trans ?_ (code_eq (rRes m' c (y 0)) (kA5 m c) (weights_finite m c hp) (y 1)).symm
  exact congrArg (fun w => codeRow rInv (rRes m' c (y 0)) w (y 1)) (A5_eq m m' c h5).symm

/-- The scales agree. -/
theorem scales_arrays (hp : Cert.Pre_KernelIdeal_finite m) : (Cert.ReferenceIdeal.Gen.dats m' 0 c).arrAt 8 Cert.ReferenceIdeal.cfg0.N = (Cert.KernelIdeal.Gen.dats m 0 c).arrAt 8 Cert.KernelIdeal.cfg0.N := by
  refine (Cert.ReferenceIdeal.Val.scales_final m' c).trans (Eq.trans ?_ (Cert.KernelIdeal.Val.scales_final m c).symm)
  rw [res_eq m m' c h0 h1 h2 h3 h4]
  refine funext fun y => ?_
  refine Eq.trans ?_ (scales_eq (rRes m' c (y 0)) (kA5 m c) (weights_finite m c hp) (y 1)).symm
  exact congrArg (fun w => scaleRow rScale (rRes m' c (y 0)) w (y 1)) (A5_eq m m' c h5).symm
end

end Cert.Compare

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Gen.ReferenceIdeal.Value
public import proofs.«01_k».proof.Proof.Compare
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Over the extended reals the kernel's three results are the reference's. -/
theorem algebraic : Cert.algebraic_KernelIdeal_ReferenceIdeal_pre_finite := by
  pair_intro
  · run_from Cert.KernelIdeal.Value.run_blocks m g
  · run_from Cert.ReferenceIdeal.Value.run_blocks m' g'
    all_goals obtain ⟨h0, h1, h2, h3, h4, h5⟩ := hagree c
    · exact Cert.Compare.res_arrays m m' c h0 h1 h2 h3 h4
    · exact Cert.Compare.codes_arrays m m' c h0 h1 h2 h3 h4 h5 hpre
    · exact Cert.Compare.scales_arrays m m' c h0 h1 h2 h3 h4 h5 hpre

theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  algebraic⟩

end Cert.Proof

end
